-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x96x128x128 : Shape := ⟨4, ![16, 96, 128, 128]⟩
abbrev S96x96x3x3 : Shape := ⟨4, ![96, 96, 3, 3]⟩
abbrev S96 : Shape := ⟨1, ![96]⟩
abbrev S15x96x1x1 : Shape := ⟨4, ![15, 96, 1, 1]⟩
abbrev S15 : Shape := ⟨1, ![15]⟩
abbrev S60x96x1x1 : Shape := ⟨4, ![60, 96, 1, 1]⟩
abbrev S60 : Shape := ⟨1, ![60]⟩
abbrev S3x3x96x96 : Shape := ⟨4, ![3, 3, 96, 96]⟩
abbrev S3x1x96x96 : Shape := ⟨4, ![3, 1, 96, 96]⟩
abbrev S3x96x96 : Shape := ⟨3, ![3, 96, 96]⟩
abbrev S3x96x288 : Shape := ⟨3, ![3, 96, 288]⟩
abbrev S_ : Shape := ⟨0, ![]⟩
abbrev S80x96 : Shape := ⟨2, ![80, 96]⟩
abbrev S15x96 : Shape := ⟨2, ![15, 96]⟩
abbrev S1 : Shape := ⟨1, ![1]⟩
abbrev S60x96 : Shape := ⟨2, ![60, 96]⟩
abbrev S96x1 : Shape := ⟨2, ![96, 1]⟩
abbrev S80x1 : Shape := ⟨2, ![80, 1]⟩
abbrev S15x1 : Shape := ⟨2, ![15, 1]⟩
abbrev S60x1 : Shape := ⟨2, ![60, 1]⟩
abbrev S16x15x128x128 : Shape := ⟨4, ![16, 15, 128, 128]⟩
abbrev S16x60x128x128 : Shape := ⟨4, ![16, 60, 128, 128]⟩
abbrev S1x15x128x128 : Shape := ⟨4, ![1, 15, 128, 128]⟩
abbrev S1x60x128x128 : Shape := ⟨4, ![1, 60, 128, 128]⟩
abbrev S288x16640 : Shape := ⟨2, ![288, 16640]⟩
abbrev S2x96x128x128 : Shape := ⟨4, ![2, 96, 128, 128]⟩
abbrev S96x16384 : Shape := ⟨2, ![96, 16384]⟩
abbrev S2 : Shape := ⟨1, ![2]⟩
abbrev S1x96x128x128 : Shape := ⟨4, ![1, 96, 128, 128]⟩
abbrev S96x128x128 : Shape := ⟨3, ![96, 128, 128]⟩
abbrev S288x128 : Shape := ⟨2, ![288, 128]⟩
abbrev S96x16383 : Shape := ⟨2, ![96, 16383]⟩
abbrev S1x96x288 : Shape := ⟨3, ![1, 96, 288]⟩
abbrev S96x288 : Shape := ⟨2, ![96, 288]⟩
abbrev S288x16384 : Shape := ⟨2, ![288, 16384]⟩
abbrev S80x16384 : Shape := ⟨2, ![80, 16384]⟩
abbrev S15x16384 : Shape := ⟨2, ![15, 16384]⟩
abbrev S15x128x128 : Shape := ⟨3, ![15, 128, 128]⟩
abbrev S60x16384 : Shape := ⟨2, ![60, 16384]⟩
abbrev S60x128x128 : Shape := ⟨3, ![60, 128, 128]⟩

abbrev nBuf : Space → Nat
  | .hbm => 40
  | .vmem => 12
  | .smem => 0
  | _ => 0

abbrev bufTy : (tb : Table) → Fin (tcTables nBuf tb) → BufTy
  | .hbm, ⟨0, _⟩ => ⟨S16x96x128x128, .f32⟩
  | .hbm, ⟨1, _⟩ => ⟨S96x96x3x3, .f32⟩
  | .hbm, ⟨2, _⟩ => ⟨S96, .f32⟩
  | .hbm, ⟨3, _⟩ => ⟨S15x96x1x1, .f32⟩
  | .hbm, ⟨4, _⟩ => ⟨S15, .f32⟩
  | .hbm, ⟨5, _⟩ => ⟨S60x96x1x1, .f32⟩
  | .hbm, ⟨6, _⟩ => ⟨S60, .f32⟩
  | .hbm, ⟨7, _⟩ => ⟨S3x3x96x96, .f32⟩
  | .hbm, ⟨8, _⟩ => ⟨S3x1x96x96, .f32⟩
  | .hbm, ⟨9, _⟩ => ⟨S3x96x96, .f32⟩
  | .hbm, ⟨10, _⟩ => ⟨S3x1x96x96, .f32⟩
  | .hbm, ⟨11, _⟩ => ⟨S3x96x96, .f32⟩
  | .hbm, ⟨12, _⟩ => ⟨S3x1x96x96, .f32⟩
  | .hbm, ⟨13, _⟩ => ⟨S3x96x96, .f32⟩
  | .hbm, ⟨14, _⟩ => ⟨S3x96x288, .f32⟩
  | .hbm, ⟨15, _⟩ => ⟨S3x96x288, .bf16⟩
  | .hbm, ⟨16, _⟩ => ⟨S_, .f32⟩
  | .hbm, ⟨17, _⟩ => ⟨S80x96, .f32⟩
  | .hbm, ⟨18, _⟩ => ⟨S15x96, .f32⟩
  | .hbm, ⟨19, _⟩ => ⟨S_, .i32⟩
  | .hbm, ⟨20, _⟩ => ⟨S1, .i32⟩
  | .hbm, ⟨21, _⟩ => ⟨S80x96, .f32⟩
  | .hbm, ⟨22, _⟩ => ⟨S60x96, .f32⟩
  | .hbm, ⟨23, _⟩ => ⟨S_, .i32⟩
  | .hbm, ⟨24, _⟩ => ⟨S1, .i32⟩
  | .hbm, ⟨25, _⟩ => ⟨S80x96, .f32⟩
  | .hbm, ⟨26, _⟩ => ⟨S80x96, .bf16⟩
  | .hbm, ⟨27, _⟩ => ⟨S96x1, .f32⟩
  | .hbm, ⟨28, _⟩ => ⟨S_, .f32⟩
  | .hbm, ⟨29, _⟩ => ⟨S80x1, .f32⟩
  | .hbm, ⟨30, _⟩ => ⟨S15x1, .f32⟩
  | .hbm, ⟨31, _⟩ => ⟨S_, .i32⟩
  | .hbm, ⟨32, _⟩ => ⟨S1, .i32⟩
  | .hbm, ⟨33, _⟩ => ⟨S80x1, .f32⟩
  | .hbm, ⟨34, _⟩ => ⟨S60x1, .f32⟩
  | .hbm, ⟨35, _⟩ => ⟨S_, .i32⟩
  | .hbm, ⟨36, _⟩ => ⟨S1, .i32⟩
  | .hbm, ⟨37, _⟩ => ⟨S80x1, .f32⟩
  | .hbm, ⟨38, _⟩ => ⟨S16x15x128x128, .f32⟩
  | .hbm, ⟨39, _⟩ => ⟨S16x60x128x128, .f32⟩
  | .local _ .vmem, ⟨0, _⟩ => ⟨S3x96x288, .bf16⟩
  | .local _ .vmem, ⟨1, _⟩ => ⟨S96x1, .f32⟩
  | .local _ .vmem, ⟨2, _⟩ => ⟨S80x96, .bf16⟩
  | .local _ .vmem, ⟨3, _⟩ => ⟨S80x1, .f32⟩
  | .local _ .vmem, ⟨4, _⟩ => ⟨S1x15x128x128, .f32⟩
  | .local _ .vmem, ⟨5, _⟩ => ⟨S1x15x128x128, .f32⟩
  | .local _ .vmem, ⟨6, _⟩ => ⟨S1x60x128x128, .f32⟩
  | .local _ .vmem, ⟨7, _⟩ => ⟨S1x60x128x128, .f32⟩
  | .local _ .vmem, ⟨8, _⟩ => ⟨S288x16640, .bf16⟩
  | .local _ .vmem, ⟨9, _⟩ => ⟨S2x96x128x128, .f32⟩
  | .local _ .vmem, ⟨10, _⟩ => ⟨S96x16384, .bf16⟩
  | .local _ .vmem, ⟨11, _⟩ => ⟨S96x16384, .bf16⟩
  | _, _ => ⟨S16x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c1_i32_2 : BitVec 32 := 1#32
  let v6 : BitVec 32 := Scalar.addi arg0 c1_i32_2
  let c16_i32 : BitVec 32 := 16#32
  let v7 : BitVec 1 := Scalar.cmpi .slt v6 c16_i32
  let v8 : BitVec 32 := Scalar.extui v7
  let c0_i32_3 : BitVec 32 := 0#32
  let v9 : BitVec 1 := Scalar.cmpi .ne v8 c0_i32_3
  v9

def k0_off1 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off2 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_52 : BitVec 32 := 0#32
  let c0_i32_53 : BitVec 32 := 0#32
  let c0_i32_54 : BitVec 32 := 0#32
  ![v2.toNat, 0, 0, 0]
def k0_off3 (i : grid0.Coords) : Fin 4 → Nat :=
  let arg0 : BitVec 32 := BitVec.ofNat 32 (i 0).val
  let c1_i32_51 : BitVec 32 := 1#32
  let v81 : BitVec 32 := Scalar.addi arg0 c1_i32_51
  let c0_i32_55 : BitVec 32 := 0#32
  let c0_i32_56 : BitVec 32 := 0#32
  let c0_i32_57 : BitVec 32 := 0#32
  ![v81.toNat, 0, 0, 0]
def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) : Fin 4 → Nat :=
  let arg0 : BitVec 32 := BitVec.ofNat 32 (i 0).val
  let c2_i32 : BitVec 32 := 2#32
  let v0 : BitVec 32 := Scalar.remsi arg0 c2_i32
  let c0_i32_4 : BitVec 32 := 0#32
  let c0_i32_5 : BitVec 32 := 0#32
  let c0_i32_6 : BitVec 32 := 0#32
  ![v0.toNat, 0, 0, 0]
def k0_off6 (i : grid0.Coords) : Fin 4 → Nat :=
  let arg0 : BitVec 32 := BitVec.ofNat 32 (i 0).val
  let c0_i32_7 : BitVec 32 := 0#32
  let c0_i32_8 : BitVec 32 := 0#32
  let c0_i32_9 : BitVec 32 := 0#32
  ![arg0.toNat, 0, 0, 0]
def k0_off7 (i : grid0.Coords) : Fin 4 → Nat :=
  let arg0 : BitVec 32 := BitVec.ofNat 32 (i 0).val
  let c2_i32 : BitVec 32 := 2#32
  let v0 : BitVec 32 := Scalar.remsi arg0 c2_i32
  let v19 : Index := Scalar.indexCast v0
  let c0 : Index := 0#32
  let c0_12 : Index := 0#32
  let c0_13 : Index := 0#32
  ![v19.toNat, 0, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S3x96x288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S80x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S80x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x15x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x60x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x96x128x128 : Shape := ⟨4, ![16, 96, 128, 128]⟩
abbrev S96x96x3x3 : Shape := ⟨4, ![96, 96, 3, 3]⟩
abbrev S96 : Shape := ⟨1, ![96]⟩
abbrev S15x96x1x1 : Shape := ⟨4, ![15, 96, 1, 1]⟩
abbrev S15 : Shape := ⟨1, ![15]⟩
abbrev S60x96x1x1 : Shape := ⟨4, ![60, 96, 1, 1]⟩
abbrev S60 : Shape := ⟨1, ![60]⟩
abbrev S_ : Shape := ⟨0, ![]⟩
abbrev S16x96x130x130 : Shape := ⟨4, ![16, 96, 130, 130]⟩
abbrev S96x96x1x1 : Shape := ⟨4, ![96, 96, 1, 1]⟩
abbrev S96x96 : Shape := ⟨2, ![96, 96]⟩
abbrev S16x128x128x96 : Shape := ⟨4, ![16, 128, 128, 96]⟩
abbrev S1x96x1x1 : Shape := ⟨4, ![1, 96, 1, 1]⟩
abbrev S15x96 : Shape := ⟨2, ![15, 96]⟩
abbrev S16x128x128x15 : Shape := ⟨4, ![16, 128, 128, 15]⟩
abbrev S16x15x128x128 : Shape := ⟨4, ![16, 15, 128, 128]⟩
abbrev S1x15x1x1 : Shape := ⟨4, ![1, 15, 1, 1]⟩
abbrev S60x96 : Shape := ⟨2, ![60, 96]⟩
abbrev S16x128x128x60 : Shape := ⟨4, ![16, 128, 128, 60]⟩
abbrev S16x60x128x128 : Shape := ⟨4, ![16, 60, 128, 128]⟩
abbrev S1x60x1x1 : Shape := ⟨4, ![1, 60, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S16x96x128x128, .f32⟩
  | .hbm, ⟨1, _⟩ => ⟨S96x96x3x3, .f32⟩
  | .hbm, ⟨2, _⟩ => ⟨S96, .f32⟩
  | .hbm, ⟨3, _⟩ => ⟨S15x96x1x1, .f32⟩
  | .hbm, ⟨4, _⟩ => ⟨S15, .f32⟩
  | .hbm, ⟨5, _⟩ => ⟨S60x96x1x1, .f32⟩
  | .hbm, ⟨6, _⟩ => ⟨S60, .f32⟩
  | .hbm, ⟨7, _⟩ => ⟨S_, .i32⟩
  | .hbm, ⟨8, _⟩ => ⟨S_, .f32⟩
  | .hbm, ⟨9, _⟩ => ⟨S16x96x130x130, .f32⟩
  | .hbm, ⟨10, _⟩ => ⟨S96x96x1x1, .f32⟩
  | .hbm, ⟨11, _⟩ => ⟨S96x96, .f32⟩
  | .hbm, ⟨12, _⟩ => ⟨S16x96x128x128, .f32⟩
  | .hbm, ⟨13, _⟩ => ⟨S16x128x128x96, .f32⟩
  | .hbm, ⟨14, _⟩ => ⟨S16x96x128x128, .f32⟩
  | .hbm, ⟨15, _⟩ => ⟨S_, .f32⟩
  | .hbm, ⟨16, _⟩ => ⟨S16x96x128x128, .f32⟩
  | .hbm, ⟨17, _⟩ => ⟨S16x96x128x128, .f32⟩
  | .hbm, ⟨18, _⟩ => ⟨S96x96x1x1, .f32⟩
  | .hbm, ⟨19, _⟩ => ⟨S96x96, .f32⟩
  | .hbm, ⟨20, _⟩ => ⟨S16x96x128x128, .f32⟩
  | .hbm, ⟨21, _⟩ => ⟨S16x128x128x96, .f32⟩
  | .hbm, ⟨22, _⟩ => ⟨S16x96x128x128, .f32⟩
  | .hbm, ⟨23, _⟩ => ⟨S16x96x128x128, .f32⟩
  | .hbm, ⟨24, _⟩ => ⟨S96x96x1x1, .f32⟩
  | .hbm, ⟨25, _⟩ => ⟨S96x96, .f32⟩
  | .hbm, ⟨26, _⟩ => ⟨S16x96x128x128, .f32⟩
  | .hbm, ⟨27, _⟩ => ⟨S16x128x128x96, .f32⟩
  | .hbm, ⟨28, _⟩ => ⟨S16x96x128x128, .f32⟩
  | .hbm, ⟨29, _⟩ => ⟨S16x96x128x128, .f32⟩
  | .hbm, ⟨30, _⟩ => ⟨S96x96x1x1, .f32⟩
  | .hbm, ⟨31, _⟩ => ⟨S96x96, .f32⟩
  | .hbm, ⟨32, _⟩ => ⟨S16x96x128x128, .f32⟩
  | .hbm, ⟨33, _⟩ => ⟨S16x128x128x96, .f32⟩
  | .hbm, ⟨34, _⟩ => ⟨S16x96x128x128, .f32⟩
  | .hbm, ⟨35, _⟩ => ⟨S16x96x128x128, .f32⟩
  | .hbm, ⟨36, _⟩ => ⟨S96x96x1x1, .f32⟩
  | .hbm, ⟨37, _⟩ => ⟨S96x96, .f32⟩
  | .hbm, ⟨38, _⟩ => ⟨S16x96x128x128, .f32⟩
  | .hbm, ⟨39, _⟩ => ⟨S16x128x128x96, .f32⟩
  | .hbm, ⟨40, _⟩ => ⟨S16x96x128x128, .f32⟩
  | .hbm, ⟨41, _⟩ => ⟨S16x96x128x128, .f32⟩
  | .hbm, ⟨42, _⟩ => ⟨S96x96x1x1, .f32⟩
  | .hbm, ⟨43, _⟩ => ⟨S96x96, .f32⟩
  | .hbm, ⟨44, _⟩ => ⟨S16x96x128x128, .f32⟩
  | .hbm, ⟨45, _⟩ => ⟨S16x128x128x96, .f32⟩
  | .hbm, ⟨46, _⟩ => ⟨S16x96x128x128, .f32⟩
  | .hbm, ⟨47, _⟩ => ⟨S16x96x128x128, .f32⟩
  | .hbm, ⟨48, _⟩ => ⟨S96x96x1x1, .f32⟩
  | .hbm, ⟨49, _⟩ => ⟨S96x96, .f32⟩
  | .hbm, ⟨50, _⟩ => ⟨S16x96x128x128, .f32⟩
  | .hbm, ⟨51, _⟩ => ⟨S16x128x128x96, .f32⟩
  | .hbm, ⟨52, _⟩ => ⟨S16x96x128x128, .f32⟩
  | .hbm, ⟨53, _⟩ => ⟨S16x96x128x128, .f32⟩
  | .hbm, ⟨54, _⟩ => ⟨S96x96x1x1, .f32⟩
  | .hbm, ⟨55, _⟩ => ⟨S96x96, .f32⟩
  | .hbm, ⟨56, _⟩ => ⟨S16x96x128x128, .f32⟩
  | .hbm, ⟨57, _⟩ => ⟨S16x128x128x96, .f32⟩
  | .hbm, ⟨58, _⟩ => ⟨S16x96x128x128, .f32⟩
  | .hbm, ⟨59, _⟩ => ⟨S16x96x128x128, .f32⟩
  | .hbm, ⟨60, _⟩ => ⟨S96x96x1x1, .f32⟩
  | .hbm, ⟨61, _⟩ => ⟨S96x96, .f32⟩
  | .hbm, ⟨62, _⟩ => ⟨S16x96x128x128, .f32⟩
  | .hbm, ⟨63, _⟩ => ⟨S16x128x128x96, .f32⟩
  | .hbm, ⟨64, _⟩ => ⟨S16x96x128x128, .f32⟩
  | .hbm, ⟨65, _⟩ => ⟨S16x96x128x128, .f32⟩
  | .hbm, ⟨66, _⟩ => ⟨S1x96x1x1, .f32⟩
  | .hbm, ⟨67, _⟩ => ⟨S16x96x128x128, .f32⟩
  | .hbm, ⟨68, _⟩ => ⟨S16x96x128x128, .f32⟩
  | .hbm, ⟨69, _⟩ => ⟨S_, .f32⟩
  | .hbm, ⟨70, _⟩ => ⟨S16x96x128x128, .f32⟩
  | .hbm, ⟨71, _⟩ => ⟨S16x96x128x128, .f32⟩
  | .hbm, ⟨72, _⟩ => ⟨S15x96, .f32⟩
  | .hbm, ⟨73, _⟩ => ⟨S16x128x128x15, .f32⟩
  | .hbm, ⟨74, _⟩ => ⟨S16x15x128x128, .f32⟩
  | .hbm, ⟨75, _⟩ => ⟨S1x15x1x1, .f32⟩
  | .hbm, ⟨76, _⟩ => ⟨S16x15x128x128, .f32⟩
  | .hbm, ⟨77, _⟩ => ⟨S16x15x128x128, .f32⟩
  | .hbm, ⟨78, _⟩ => ⟨S60x96, .f32⟩
  | .hbm, ⟨79, _⟩ => ⟨S16x128x128x60, .f32⟩
  | .hbm, ⟨80, _⟩ => ⟨S16x60x128x128, .f32⟩
  | .hbm, ⟨81, _⟩ => ⟨S1x60x1x1, .f32⟩
  | .hbm, ⟨82, _⟩ => ⟨S16x60x128x128, .f32⟩
  | .hbm, ⟨83, _⟩ => ⟨S16x60x128x128, .f32⟩
  | _, _ => ⟨S16x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_call1_cst : Ref sig .tc := ⟨.hbm, 69, rfl⟩
abbrev main_call1_v0 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩

abbrev nD : Nat := 1
abbrev τ : Topo := Topo.v7x

variable {F : FTy → Type} [FloatOps F]
-- ==== Proof.Setup.lean ====
/- The launch set-up of the ideal kernel's hand proof: @main up to the region, the input windows' blocks, the body's
   branch conditions in closed form, the operands, and the two-slot ring through which the body streams the image
   array (slots, blocks, cells, what the launch hands the ring and takes back, and the canonical names of the slices). -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

set_option maxHeartbeats 800000 in
/-- @main up to the region, at the certificate's variants `𝒱₀`: the host operations then the region
    (`Pipeline.hmain_prefix`: `StableHlo.wp_seq` over the unscoped buffers, off `main_chain`). -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's staging buffer holds its block at every point, for proof data over `V`'s arrays whose body leaves the block in place. -/
theorem blockBefore0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for proof data over `V`'s arrays whose body leaves the block in place. -/
theorem blockBefore1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for proof data over `V`'s arrays whose body leaves the block in place. -/
theorem blockBefore2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for proof data over `V`'s arrays whose body leaves the block in place. -/
theorem blockBefore3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev condFirst (i : grid0.Coords) : Prop := (Scalar.cmpi .ne (Scalar.extui (Scalar.cmpi .eq (BitVec.ofNat 32 (i 0).val) 0#32)) 0#32) = 1#1
/-- It holds at the first point only — by arithmetic of the point. -/
theorem condFirst_iff : ∀ t : Fin cfg0.N, condFirst (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [condFirst, e0]
    word_cmp
   : ∀ t : Fin grid0.N, condFirst (grid0.coords t) ↔ t.val % 16 = 0)

/-- The condition of the body's `scf.if` 1 (`k0_h2`), from the grid coordinates (the skeleton's scalar
    chain substituted). -/
abbrev condMore (i : grid0.Coords) : Prop := k0_cond2 i = 1#1
/-- It holds at the points before point 15 — decided over the grid. -/
theorem condMore_iff : ∀ t : Fin cfg0.N, condMore (grid0.coords t) ↔ t.val < 15 :=
  (by decide +kernel : ∀ t : Fin grid0.N, condMore (grid0.coords t) ↔ t.val < 15)

/-- The condition of the body's `scf.if` 2 (`k0_h3`), from the grid coordinates (the skeleton's scalar
    chain substituted). -/
abbrev condInit (i : grid0.Coords) : Prop := (Scalar.cmpi .ne (Scalar.extui (Scalar.cmpi .eq (BitVec.ofNat 32 (i 0).val) 0#32)) 0#32) = 1#1
/-- It holds at the first point only — by arithmetic of the point. -/
theorem condInit_iff : ∀ t : Fin cfg0.N, condInit (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [condInit, e0]
    word_cmp
   : ∀ t : Fin grid0.N, condInit (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S3x96x288 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S80x96 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S80x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x15x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x60x128x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scStack : Memref sig .tc .vmem S288x16640 .bf16 := Memref.whole cc0_scratch0
abbrev scRing : Memref sig .tc .vmem S2x96x128x128 .f32 := Memref.whole cc0_scratch1
abbrev scMaskL : Memref sig .tc .vmem S96x16384 .bf16 := Memref.whole cc0_scratch2
abbrev scMaskR : Memref sig .tc .vmem S96x16384 .bf16 := Memref.whole cc0_scratch3
/-- The operands left in HBM that the body copies into scratch itself, whole. -/
abbrev hbX : Memref sig .tc .hbm S16x96x128x128 .f32 := Memref.whole main_arg0
/-- Memref `M`'s buffer on core `c`: its contents type, and it held whole at `f` — behind this abbreviation, so that the
    run's rewriting of the goal leaves `Memref.view` intact (the form the executor reads a held buffer in). -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev ownSem : Fin 2 → SemLoc sig := fun j => (![SemLoc.dma 8, SemLoc.dma 9] : Fin 2 → SemLoc sig) j
theorem ownSem_facts : Pipeline.OwnSemFacts spec0 ownSem := by decide
/-- The cells at zero, listed. -/
theorem ownSems_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 8) 0 ∗ semVal ((c : Thread nD τ), SemLoc.dma 9) 0) := by
  rw [Pipeline.ownSems0_eq_of_list c ownSem [0, 1] (by decide) (by decide)]; rfl
/-- The HBM operands the body moves, as references: unscoped, no window's array (`Pipeline.restRefs`). -/
def hbmSet : Finset (Ref sig .tc) := {main_arg0}
theorem hbmSet_sub : hbmSet ⊆ Pipeline.restRefs sig spec0 := by decide
/-- Their points-tos at the launch contents, listed. -/
theorem hbmPts_eq (c : Dev nD) :
    (bigSep hbmSet (fun b => ((c : Thread nD τ).loc b) ↦{fullShare} V m c b) : sProp 𝕄) = iprop(hbPt c hbX (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD_eq (c : Dev nD) :
    (Pipeline.ΦD ownSem spec0 hbmSet (V m) c : sProp 𝕄)
      = iprop(iprop((∃ d, owns (c : Thread nD τ) scStack fullShare d) ∗ (∃ d, owns (c : Thread nD τ) scRing fullShare d) ∗ (∃ d, owns (c : Thread nD τ) scMaskL fullShare d) ∗ (∃ d, owns (c : Thread nD τ) scMaskR fullShare d)) ∗ (∃ r, prngReg c r) ∗ iprop(semVal ((c : Thread nD τ), SemLoc.dma 8) 0 ∗ semVal ((c : Thread nD τ), SemLoc.dma 9) 0) ∗ iprop(hbPt c hbX (V m c main_arg0))) := by
  rw [Pipeline.ΦD_eq, scopedRest0_eq, ownSems_eq, hbmPts_eq]; simp only [scStack, scRing, scMaskL, scMaskR, owns_whole]; try rfl

/-! ## Ring 0 of kernel 0: `main_arg0` streamed through the 2 slots of `cc0_scratch1` on the cells of `cc0_scratch4`, 1 block ahead, in 16 steps -/

instance : NeZero grid0.N := ⟨by rw [N_0]; decide⟩
theorem inb_slot (s : Fin 2) : ∀ a, (![s.val, 0, 0, 0] : Fin 4 → Nat) a + S1x96x128x128.size a ≤ S2x96x128x128.size a := by
  have := s.isLt; intro a; fin_cases a <;> simp <;> omega
theorem inb_src (b : Fin 16) : ∀ a, (![1 * b.val, 0, 0, 0] : Fin 4 → Nat) a + S1x96x128x128.size a ≤ S16x96x128x128.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def ringSlot (s : Fin 2) : Memref sig .tc .vmem S96x128x128 .f32 :=
  (scRing.slice (Rect.unit (s := S2x96x128x128) ![s.val, 0, 0, 0] S1x96x128x128.size (inb_slot s)) (fun _ => rfl)).squeeze S96x128x128 squeezes_S1x96x128x128_S96x128x128
/-- Block `b` of the operand (the block step `b` waits), spelt as the transfers spell their source, at offsets in `b`. -/
def srcBlk (b : Fin 16) : Memref sig .tc .hbm S96x128x128 .f32 :=
  (hbX.slice (Rect.unit (s := S16x96x128x128) ![1 * b.val, 0, 0, 0] S1x96x128x128.size (inb_src b)) (fun _ => rfl)).squeeze S96x128x128 squeezes_S1x96x128x128_S96x128x128
/-- Cell `s` of `cc0_scratch4`, spelt as the body spells a cell; its number in the pool. -/
def ringCell (s : Fin 2) : DmaSems sig S_ := (cc0_scratch4.slice (Rect.unit (s := S2) ![s.val] S1.size (inb_cell s))).squeeze S_ squeezes_S1_S_
abbrev cellSem (s : Fin 2) : SemLoc sig := SemLoc.dma (ringCell s).sem
theorem cellSem_zero : cellSem 0 = SemLoc.dma 8 := by decide
theorem cellSem_one : cellSem 1 = SemLoc.dma 9 := by decide

section Ring0_0
variable (c : Dev nD) (W : HbBuf (F := F) c hbX)
/-- The operand is lent BY SHARE, one read-share copy of it per slot (the left and right halves of the full share): whatever
    blocks two transfers in flight stream — the same one twice, two that overlap —, each borrows from its own slot's copy. -/
abbrev slotShare (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotPt (s : Fin 2) (f : HbBuf (F := F) c (ringSlot s)) : sProp 𝕄 := (ringSlot s).view.loc (c : Thread nD τ) ↦[(ringSlot s).view.set]{fullShare} f
abbrev cellPt (s : Fin 2) : sProp 𝕄 := semVal ((c : Thread nD τ), cellSem s) 0
abbrev srcPt (s : Fin 2) (b : Fin 16) : sProp 𝕄 := (srcBlk b).view.loc (c : Thread nD τ) ↦[(srcBlk b).view.set]{slotShare s} W
/-- (a `def`: no run reads this rest, and folded it stays out of the executor's table of held buffers) -/
def restPt (s : Fin 2) (b : Fin 16) : sProp 𝕄 := ((c : Thread nD τ).loc main_arg0) ↦[Finset.univ \ (srcBlk b).view.set]{slotShare s} W
abbrev wholePt (s : Fin 2) : sProp 𝕄 := ((c : Thread nD τ).loc main_arg0) ↦[Finset.univ]{slotShare s} W
abbrev landed (s : Fin 2) (b : Fin 16) (f : HbBuf (F := F) c (ringSlot s)) : HbBuf (F := F) c (ringSlot s) :=
  (ringSlot s).view.writes (Elt F) f [⟨Rect.whole S96x128x128, ReadAs.same.apply ((srcBlk b).view.read (Elt F) W)⟩]
abbrev flightPt (s : Fin 2) (b : Fin 16) (f : HbBuf (F := F) c (ringSlot s)) : sProp 𝕄 :=
  Transfers.Flight countersEmb (c : Thread nD τ) (cellSem s) default ((ringSlot s).view.amount (cellSem s))
    iprop(slotPt c s (landed c W s b f) ∗ srcPt c W s b)
/-- Lib/Ring.lean's `slot` and `flight` families: a slot not in flight carries its copy of the operand whole; a flight, the
    rest of the copy it borrowed from. No block is held apart: the `home` family is `emp`. -/
abbrev slotOf (s : Fin 2) (f : HbBuf (F := F) c (ringSlot s)) : sProp 𝕄 := iprop(slotPt c s f ∗ wholePt c W s)
abbrev flightOf (s : Fin 2) (b : Fin 16) (f : HbBuf (F := F) c (ringSlot s)) : sProp 𝕄 := iprop(flightPt c W s b f ∗ restPt c W s b)
abbrev noHome (b : Fin 16) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt (k : ℕ) : sProp 𝕄 :=
  if k = 0 then Ring.At₀ (cellPt c) (slotOf c W) noHome
  else Ring.AtK 1 (cellPt c) (slotOf c W) noHome (flightOf c W) (landed c W) k
omit [FloatOps F] in
theorem cellPt_zero : cellPt (F := F) c 0 = semVal ((c : Thread nD τ), SemLoc.dma 8) 0 := congrArg (fun x => (semVal ((c : Thread nD τ), x) 0 : sProp 𝕄)) cellSem_zero
omit [FloatOps F] in
theorem cellPt_one : cellPt (F := F) c 1 = semVal ((c : Thread nD τ), SemLoc.dma 9) 0 := congrArg (fun x => (semVal ((c : Thread nD τ), x) 0 : sProp 𝕄)) cellSem_one
end Ring0_0

/-! ### The slots, disjoint and covering the scratch (Lib/Ring.lean `lead_disjoint` / `lead_cover`) -/

abbrev slotSet (s : Fin 2) : Finset S2x96x128x128.Idx := (Rect.unit (s := S2x96x128x128) ![s.val, 0, 0, 0] S1x96x128x128.size (inb_slot s)).set
theorem slotSet_eq (s : Fin 2) : (ringSlot s).view.set = slotSet s := by
  simp only [ringSlot, Memref.view_squeeze, View.set_reshape]; exact View.set_slice_whole _ _
theorem slots_disjoint (s s' : Fin 2) (h : s ≠ s') : Disjoint (slotSet s) (slotSet s') :=
  Ring.lead_disjoint (s := S2x96x128x128) (0 : Fin 4) 1 (fun s : Fin 2 => (![s.val, 0, 0, 0] : Fin 4 → Nat)) S1x96x128x128.size inb_slot (fun s => by simp) rfl s s' h
theorem slots_cover : Finset.univ.biUnion slotSet = Finset.univ :=
  Ring.lead_cover (s := S2x96x128x128) (0 : Fin 4) 1 (fun s : Fin 2 => (![s.val, 0, 0, 0] : Fin 4 → Nat)) S1x96x128x128.size inb_slot (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf (F := F) c hbX)
theorem slotPt_eq (s : Fin 2) (f) : slotPt (F := F) c s f = (((c : Thread nD τ).loc cc0_scratch1) ↦[slotSet s]{fullShare} f : sProp 𝕄) := by
  unfold slotPt; rw [slotSet_eq]; rfl
/-- A slot's copy of the operand, whole, is block `b`'s elements and the rest (any `b`: what a run splits off before its step
    starts block `b`, and joins back once the wait returned it); -/
theorem src_split (s : Fin 2) (b : Fin 16) : wholePt (F := F) c W s ⊣⊢ iprop(srcPt c W s b ∗ restPt c W s b) := by
  unfold restPt; exact pointsTo_split_subset (Finset.subset_univ _)
/-- the operand whole at the full share is the two copies. -/
theorem whole_split : (hbPt c hbX W : sProp 𝕄) ⊣⊢ iprop(wholePt c W 0 ∗ wholePt c W 1) :=
  pointsTo_share (PosShare.mem_left_op_right fullShare)
set_option maxHeartbeats 1000000 in
/-- the scratch whole at anything is its slots at something each, and back. -/
theorem slots_in : iprop(∃ d, owns (c : Thread nD τ) scRing fullShare d) ⊢ (iprop((∃ f, slotPt (F := F) c 0 f) ∗ ∃ f, slotPt (F := F) c 1 f) : sProp 𝕄) := by
  simp only [scRing, owns_whole]
  exact Ring.slots2_split (U := Pipeline.UD sig nD τ) (ℓ := (c : Thread nD τ).loc cc0_scratch1) (q := fullShare) slotSet slots_disjoint slots_cover
    (slotPt c 0) (slotPt c 1) (slotPt_eq c 0) (slotPt_eq c 1)
set_option maxHeartbeats 1000000 in
theorem slots_out : (iprop((∃ f, slotPt (F := F) c 0 f) ∗ ∃ f, slotPt (F := F) c 1 f) : sProp 𝕄) ⊢ iprop(∃ d, owns (c : Thread nD τ) scRing fullShare d) := by
  simp only [scRing, owns_whole]
  exact Ring.slots2_join (U := Pipeline.UD sig nD τ) (ℓ := (c : Thread nD τ).loc cc0_scratch1) (q := fullShare) slotSet slots_disjoint slots_cover
    (slotPt c 0) (slotPt c 1) (slotPt_eq c 0) (slotPt_eq c 1)
end InOut0_0

/-- INTO THE RING: the launch's pieces — the scratch whole, the cells at zero, the operand whole — are the ring before its first step; -/
theorem ring_in (c : Dev nD) :
    iprop((∃ d, owns (c : Thread nD τ) scRing fullShare d) ∗ (semVal ((c : Thread nD τ), SemLoc.dma 8) 0 ∗ semVal ((c : Thread nD τ), SemLoc.dma 9) 0) ∗ hbPt c hbX (V m c main_arg0))
      ⊢ ringAt c (V m c main_arg0) 0 := by
  unfold ringAt; rw [if_pos rfl]; unfold Ring.At₀
  rw [Ring.bigSep_fin2]
  simp only [Ring.free, cellPt_zero, cellPt_one]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (whole_split (F := F) c (V m c main_arg0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring_out (c : Dev nD) :
    ringAt c (V m c main_arg0) 16
      ⊢ iprop((∃ d, owns (c : Thread nD τ) scRing fullShare d) ∗ (semVal ((c : Thread nD τ), SemLoc.dma 8) 0 ∗ semVal ((c : Thread nD τ), SemLoc.dma 9) 0) ∗ hbPt c hbX (V m c main_arg0)) := by
  unfold ringAt; rw [if_neg (by decide)]
  iintro H
  ihave H' := (Ring.free2_of_AtK_last _ _ _ _ _) $$ H
  simp only [Ring.free, cellPt_zero, cellPt_one]
  icases H' with ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c (V m c main_arg0)).2; isplitl [HW0]; · iexact HW0
    iexact HW1

/-! ### Ring 0's steps at each case's points, and its canonical names: the body's operands at point `t` are the ring's slots, blocks and cells -/

section Canon0_0
omit [FloatOps F]
/-- At the points of case A the ring takes its FIRST step. -/
theorem step_first : ∀ t : Fin grid0.N, condFirst (grid0.coords t) → condMore (grid0.coords t) → condInit (grid0.coords t) → t.val = 0 ∧ (t.val + 1) = 1 := by decide +kernel
/-- At the points of case B the ring takes a step, a block still to start. -/
theorem step_mid : ∀ t : Fin grid0.N, ¬condFirst (grid0.coords t) → condMore (grid0.coords t) → ¬condInit (grid0.coords t) → 1 ≤ t.val ∧ t.val + 1 < 16 ∧ (t.val + 1) = t.val + 1 := by decide +kernel
/-- At the points of case C the ring takes its LAST step. -/
theorem step_last : ∀ t : Fin grid0.N, ¬condFirst (grid0.coords t) → ¬condMore (grid0.coords t) → ¬condInit (grid0.coords t) → 1 ≤ t.val ∧ t.val + 1 = 16 ∧ (t.val + 1) = t.val + 1 := by decide +kernel
set_option synthInstance.maxSize 4096 in
theorem off_eq1 : ∀ t : Fin grid0.N, condFirst (grid0.coords t) → condMore (grid0.coords t) → condInit (grid0.coords t) → (![0, 0, 0, 0] : Fin 4 → Nat) = ![(Ring.sl 2 t.val).val, 0, 0, 0] := by decide +kernel
@[sl_canon] theorem canon1 (t : Fin grid0.N) (h0 : condFirst (grid0.coords t)) (h1 : condMore (grid0.coords t)) (h2 : condInit (grid0.coords t)) :
    (scRing.slice (Rect.unit (s := S2x96x128x128) ![0, 0, 0, 0] S1x96x128x128.size inb_S2x96x128x128_S1x96x128x128_0_0_0_0) (fun _ => rfl)).squeeze S96x128x128 squeezes_S1x96x128x128_S96x128x128 = ringSlot (Ring.sl 2 t.val) :=
  congrArg (fun M : Memref sig .tc .vmem S1x96x128x128 .f32 => M.squeeze S96x128x128 squeezes_S1x96x128x128_S96x128x128) (Memref.slice_unit_congr _ (off_eq1 t h0 h1 h2) _ _ (fun _ => rfl) (fun _ => rfl))
set_option synthInstance.maxSize 4096 in
theorem off_eq2 : ∀ t : Fin grid0.N, condFirst (grid0.coords t) → condMore (grid0.coords t) → condInit (grid0.coords t) → (![0] : Fin 1 → Nat) = ![(Ring.sl 2 t.val).val] := by decide +kernel
@[sl_canon] theorem canon2 (t : Fin grid0.N) (h0 : condFirst (grid0.coords t)) (h1 : condMore (grid0.coords t)) (h2 : condInit (grid0.coords t)) :
    (cc0_scratch4.slice (Rect.unit (s := S2) ![0] S1.size inb_S2_S1_0)).squeeze S_ squeezes_S1_S_ = ringCell (Ring.sl 2 t.val) :=
  congrArg (fun A : DmaSems sig S1 => A.squeeze S_ squeezes_S1_S_) (SemArray.slice_unit_congr _ (off_eq2 t h0 h1 h2) _ _)
set_option synthInstance.maxSize 4096 in
theorem off_eq3 : ∀ t : Fin grid0.N, condFirst (grid0.coords t) → condMore (grid0.coords t) → condInit (grid0.coords t) → (![0, 0, 0, 0] : Fin 4 → Nat) = ![1 * (Ring.bk 16 t.val).val, 0, 0, 0] := by decide +kernel
@[sl_canon] theorem canon3 (t : Fin grid0.N) (h0 : condFirst (grid0.coords t)) (h1 : condMore (grid0.coords t)) (h2 : condInit (grid0.coords t)) :
    (hbX.slice (Rect.unit (s := S16x96x128x128) ![0, 0, 0, 0] S1x96x128x128.size inb_S16x96x128x128_S1x96x128x128_0_0_0_0) (fun _ => rfl)).squeeze S96x128x128 squeezes_S1x96x128x128_S96x128x128 = srcBlk (Ring.bk 16 t.val) :=
  congrArg (fun M : Memref sig .tc .hbm S1x96x128x128 .f32 => M.squeeze S96x128x128 squeezes_S1x96x128x128_S96x128x128) (Memref.slice_unit_congr _ (off_eq3 t h0 h1 h2) _ _ (fun _ => rfl) (fun _ => rfl))
set_option synthInstance.maxSize 4096 in
theorem off_eq4 : ∀ t : Fin grid0.N, k0_off2 (grid0.coords t) = ![(Ring.sl 2 (t.val + 1)).val, 0, 0, 0] := by decide +kernel
@[sl_canon] theorem canon4 (t : Fin grid0.N) (h1 : condMore (grid0.coords t)) :
    (scRing.slice (Rect.unit (s := S2x96x128x128) (k0_off2 (grid0.coords t)) S1x96x128x128.size (k0_off2_inb (grid0.coords t) h1)) (fun _ => rfl)).squeeze S96x128x128 squeezes_S1x96x128x128_S96x128x128 = ringSlot (Ring.sl 2 (t.val + 1)) :=
  congrArg (fun M : Memref sig .tc .vmem S1x96x128x128 .f32 => M.squeeze S96x128x128 squeezes_S1x96x128x128_S96x128x128) (Memref.slice_unit_congr _ (off_eq4 t ) _ _ (fun _ => rfl) (fun _ => rfl))
set_option synthInstance.maxSize 4096 in
theorem off_eq5 : ∀ t : Fin grid0.N, k0_off1 (grid0.coords t) = ![(Ring.sl 2 (t.val + 1)).val] := by decide +kernel
@[sl_canon] theorem canon5 (t : Fin grid0.N) (h1 : condMore (grid0.coords t)) :
    (cc0_scratch4.slice (Rect.unit (s := S2) (k0_off1 (grid0.coords t)) S1.size (k0_off1_inb (grid0.coords t) h1))).squeeze S_ squeezes_S1_S_ = ringCell (Ring.sl 2 (t.val + 1)) :=
  congrArg (fun A : DmaSems sig S1 => A.squeeze S_ squeezes_S1_S_) (SemArray.slice_unit_congr _ (off_eq5 t ) _ _)
set_option synthInstance.maxSize 4096 in
theorem off_eq6 : ∀ t : Fin grid0.N, condFirst (grid0.coords t) → condMore (grid0.coords t) → condInit (grid0.coords t) → k0_off3 (grid0.coords t) = ![1 * (Ring.bk 16 (t.val + 1)).val, 0, 0, 0] := by decide +kernel
@[sl_canon] theorem canon6 (t : Fin grid0.N) (h0 : condFirst (grid0.coords t)) (h1 : condMore (grid0.coords t)) (h2 : condInit (grid0.coords t)) :
    (hbX.slice (Rect.unit (s := S16x96x128x128) (k0_off3 (grid0.coords t)) S1x96x128x128.size (k0_off3_inb (grid0.coords t) h1)) (fun _ => rfl)).squeeze S96x128x128 squeezes_S1x96x128x128_S96x128x128 = srcBlk (Ring.bk 16 (t.val + 1)) :=
  congrArg (fun M : Memref sig .tc .hbm S1x96x128x128 .f32 => M.squeeze S96x128x128 squeezes_S1x96x128x128_S96x128x128) (Memref.slice_unit_congr _ (off_eq6 t h0 h1 h2) _ _ (fun _ => rfl) (fun _ => rfl))
set_option synthInstance.maxSize 4096 in
theorem off_eq7 : ∀ t : Fin grid0.N, k0_off5 (grid0.coords t) = ![(Ring.sl 2 t.val).val, 0, 0, 0] := by decide +kernel
@[sl_canon] theorem canon7 (t : Fin grid0.N) :
    (scRing.slice (Rect.unit (s := S2x96x128x128) (k0_off5 (grid0.coords t)) S1x96x128x128.size (k0_off5_inb (grid0.coords t))) (fun _ => rfl)).squeeze S96x128x128 squeezes_S1x96x128x128_S96x128x128 = ringSlot (Ring.sl 2 t.val) :=
  congrArg (fun M : Memref sig .tc .vmem S1x96x128x128 .f32 => M.squeeze S96x128x128 squeezes_S1x96x128x128_S96x128x128) (Memref.slice_unit_congr _ (off_eq7 t ) _ _ (fun _ => rfl) (fun _ => rfl))
set_option synthInstance.maxSize 4096 in
theorem off_eq8 : ∀ t : Fin grid0.N, k0_off4 (grid0.coords t) = ![(Ring.sl 2 t.val).val] := by decide +kernel
@[sl_canon] theorem canon8 (t : Fin grid0.N) :
    (cc0_scratch4.slice (Rect.unit (s := S2) (k0_off4 (grid0.coords t)) S1.size (k0_off4_inb (grid0.coords t)))).squeeze S_ squeezes_S1_S_ = ringCell (Ring.sl 2 t.val) :=
  congrArg (fun A : DmaSems sig S1 => A.squeeze S_ squeezes_S1_S_) (SemArray.slice_unit_congr _ (off_eq8 t ) _ _)
set_option synthInstance.maxSize 4096 in
theorem off_eq9 : ∀ t : Fin grid0.N, ¬condFirst (grid0.coords t) → condMore (grid0.coords t) → ¬condInit (grid0.coords t) → k0_off3 (grid0.coords t) = ![1 * (Ring.bk 16 (t.val + 1)).val, 0, 0, 0] := by decide +kernel
@[sl_canon] theorem canon9 (t : Fin grid0.N) (h0 : ¬condFirst (grid0.coords t)) (h1 : condMore (grid0.coords t)) (h2 : ¬condInit (grid0.coords t)) :
    (hbX.slice (Rect.unit (s := S16x96x128x128) (k0_off3 (grid0.coords t)) S1x96x128x128.size (k0_off3_inb (grid0.coords t) h1)) (fun _ => rfl)).squeeze S96x128x128 squeezes_S1x96x128x128_S96x128x128 = srcBlk (Ring.bk 16 (t.val + 1)) :=
  congrArg (fun M : Memref sig .tc .hbm S1x96x128x128 .f32 => M.squeeze S96x128x128 squeezes_S1x96x128x128_S96x128x128) (Memref.slice_unit_congr _ (off_eq9 t h0 h1 h2) _ _ (fun _ => rfl) (fun _ => rfl))
set_option synthInstance.maxSize 4096 in
theorem off_eq10 : ∀ t : Fin grid0.N, k0_off7 (grid0.coords t) = ![(Ring.sl 2 t.val).val, 0, 0, 0] := by decide +kernel
/-- The ring-memref load's box in the slot's spelling (the block this step waited): the executor's symbolic geometry then sees it inside that slot. -/
instance (priority := high) closedOff10 (t : Fin grid0.N) : ClosedOff (k0_off7 (grid0.coords t)) := ⟨![(Ring.sl 2 t.val).val, 0, 0, 0], off_eq10 t⟩
end Canon0_0

end Cert.KernelIdeal.Conv

end
-- ==== Proof.Stack.lean ====
/- What the kernel body holds and leaves, as plain functions of the arrays: the image block the ring delivers, the
   stacked scratch (centre, left and right taps over zero margins), the hidden layer and the two output blocks;
   and the reads of the run's buffers as these functions. -/
module

public import proofs.«01_k».proof.Proof.Setup
public import Idealize.ShloMosaic.Lib.VecWindow

@[expose] public section

set_option maxRecDepth 16384

noncomputable section

namespace Cert.KernelIdeal.Conv

open Cert.KernelIdeal Cert.KernelIdeal.Gen
open Idealize.ShloMosaic Idealize.ShloMosaic.TcCoe
open Idealize.ShloMosaic.VecWindow (window put)

variable {F : FTy → Type} [FloatOps F]

/-- The zero the margins of the stacked scratch hold. -/
def zc : Elt F .bf16 := Scalar.ofBits (F := F) .bf16 0x0000#16

/-- Block `t` of the image array. -/
def xblk (x : Vec F S16x96x128x128 .f32) (t : Fin 16) : Vec F S1x96x128x128 .f32 :=
  window x ![1 * t.val, 0, 0, 0] S1x96x128x128.size (inb_src t)

/-- The scratch `s` with the three bands put over its columns 128 to 16511. -/
def stackOn (s : Vec F S288x16640 .bf16) (a b d : Vec F S96x16384 .bf16) : Vec F S288x16640 .bf16 :=
  put (put (put s ![0, 128] S96x16384.size a) ![96, 128] S96x16384.size b) ![192, 128] S96x16384.size d

/-- The stacked scratch of an image block under the masks `ml`, `mr`. -/
def stk (xb : Vec F S1x96x128x128 .f32) (ml mr : Vec F S96x16384 .bf16) : Vec F S288x16640 .bf16 :=
  stackOn (fun _ => zc) (k0_pay11 xb) (k0_pay13 (k0_pay12 xb) ml) (k0_pay14 (k0_pay10 xb) mr)

/-- The margins are zero. -/
def Margins (s : Vec F S288x16640 .bf16) : Prop :=
  ∀ i : S288x16640.Idx, (i 1).val < 128 ∨ 16512 ≤ (i 1).val → s i = zc

/-- The hidden layer of a stacked scratch, before its rectifier. -/
def hid (w : Vec F S3x96x288 .bf16) (b : Vec F S96x1 .f32) (s : Vec F S288x16640 .bf16) : FVec F S96x16384 .f32 :=
  k0_pay15 (window w ![0, 0, 0] S1x96x288.size inb_S3x96x288_S1x96x288_0_0_0) (window s ![0, 0] S288x16384.size inb_S288x16640_S288x16384_0_0)
    (window w ![1, 0, 0] S1x96x288.size inb_S3x96x288_S1x96x288_1_0_0) (window s ![0, 128] S288x16384.size inb_S288x16640_S288x16384_0_128)
    (window w ![2, 0, 0] S1x96x288.size inb_S3x96x288_S1x96x288_2_0_0) (window s ![0, 256] S288x16384.size inb_S288x16640_S288x16384_0_256) b

/-- The block of class logits, and the block of box regressions, a point leaves. -/
def clsOut (w : Vec F S3x96x288 .bf16) (b : Vec F S96x1 .f32) (h : Vec F S80x96 .bf16) (hb : Vec F S80x1 .f32)
    (s : Vec F S288x16640 .bf16) : Vec F S1x15x128x128 .f32 := k0_pay2 (hid w b s) k0_pay16 h hb
def boxOut (w : Vec F S3x96x288 .bf16) (b : Vec F S96x1 .f32) (h : Vec F S80x96 .bf16) (hb : Vec F S80x1 .f32)
    (s : Vec F S288x16640 .bf16) : Vec F S1x60x128x128 .f32 := k0_pay3 (hid w b s) k0_pay16 h hb

/-! ## The stacked scratch -/

/-- A put read outside its columns. -/
theorem put_margin (s : Vec F S288x16640 .bf16) (r : ℕ) (a : Vec F S96x16384 .bf16) (i : S288x16640.Idx)
    (h : (i 1).val < 128 ∨ 16512 ≤ (i 1).val) : put s ![r, 128] S96x16384.size a i = s i :=
  dif_neg fun hall => by
    have h1 : 128 ≤ (i 1).val ∧ (i 1).val < 128 + 16384 := hall 1
    omega

theorem margins_stackOn {s : Vec F S288x16640 .bf16} (hs : Margins s) (a b d : Vec F S96x16384 .bf16) : Margins (stackOn s a b d) :=
  fun i h => by unfold stackOn; rw [put_margin _ _ _ _ h, put_margin _ _ _ _ h, put_margin _ _ _ _ h]; exact hs i h

theorem margins_stk (xb : Vec F S1x96x128x128 .f32) (ml mr : Vec F S96x16384 .bf16) : Margins (stk xb ml mr) :=
  margins_stackOn (fun _ _ => rfl) _ _ _

/-- A put read inside its columns: at its own rows the band, elsewhere what was there. -/
theorem put_rows (s : Vec F S288x16640 .bf16) (r : ℕ) (a : Vec F S96x16384 .bf16) (i : S288x16640.Idx) (j : S96x16384.Idx)
    (h0 : (i 0).val = r + (j 0).val) (h1 : (i 1).val = 128 + (j 1).val) : put s ![r, 128] S96x16384.size a i = a j := by
  have j0 : (j 0).val < 96 := (j 0).isLt
  have j1 : (j 1).val < 16384 := (j 1).isLt
  unfold put
  rw [dif_pos (by intro k; fin_cases k <;> simp <;> omega)]
  exact congrArg a (funext fun k => Fin.ext (by fin_cases k <;> simp [Rect.unitLocal_val] <;> omega))
theorem put_other (s : Vec F S288x16640 .bf16) (r : ℕ) (a : Vec F S96x16384 .bf16) (i : S288x16640.Idx)
    (h0 : (i 0).val < r ∨ r + 96 ≤ (i 0).val) : put s ![r, 128] S96x16384.size a i = s i :=
  dif_neg fun hall => by
    have h1 : r ≤ (i 0).val ∧ (i 0).val < r + 96 := hall 0
    omega

/-- The stack read at a row of each band. -/
theorem stackOn_mid (s : Vec F S288x16640 .bf16) (a b d : Vec F S96x16384 .bf16) (i : S288x16640.Idx) (j : S96x16384.Idx)
    (h0 : (i 0).val = (j 0).val) (h1 : (i 1).val = 128 + (j 1).val) : stackOn s a b d i = a j := by
  have j0 : (j 0).val < 96 := (j 0).isLt
  unfold stackOn
  rw [put_other _ _ _ _ (by omega), put_other _ _ _ _ (by omega), put_rows _ 0 _ i j (by omega) h1]
theorem stackOn_left (s : Vec F S288x16640 .bf16) (a b d : Vec F S96x16384 .bf16) (i : S288x16640.Idx) (j : S96x16384.Idx)
    (h0 : (i 0).val = 96 + (j 0).val) (h1 : (i 1).val = 128 + (j 1).val) : stackOn s a b d i = b j := by
  have j0 : (j 0).val < 96 := (j 0).isLt
  unfold stackOn
  rw [put_other _ _ _ _ (by omega), put_rows _ 96 _ i j h0 h1]
theorem stackOn_right (s : Vec F S288x16640 .bf16) (a b d : Vec F S96x16384 .bf16) (i : S288x16640.Idx) (j : S96x16384.Idx)
    (h0 : (i 0).val = 192 + (j 0).val) (h1 : (i 1).val = 128 + (j 1).val) : stackOn s a b d i = d j := by
  unfold stackOn
  rw [put_rows _ 192 _ i j h0 h1]

/-- Two stacks over scratches that agree on the margins agree. -/
theorem stackOn_congr (s s' : Vec F S288x16640 .bf16) (a b d : Vec F S96x16384 .bf16) (i : S288x16640.Idx)
    (h : ((i 1).val < 128 ∨ 16512 ≤ (i 1).val) → s i = s' i) : stackOn s a b d i = stackOn s' a b d i := by
  by_cases hm : (i 1).val < 128 ∨ 16512 ≤ (i 1).val
  · unfold stackOn; iterate 6 rw [put_margin _ _ _ _ hm]
    exact h hm
  · have hr : (i 0).val < 288 := (i 0).isLt
    have hj : ∀ n < 96, ∃ j : S96x16384.Idx, (j 0).val = n ∧ (i 1).val = 128 + (j 1).val := fun n hn =>
      ⟨fun k => match k with | ⟨0, _⟩ => ⟨n, hn⟩ | ⟨1, _⟩ => ⟨(i 1).val - 128, (by have := (i 1).isLt; omega : (i 1).val - 128 < 16384)⟩, rfl,
        (by omega : (i 1).val = 128 + ((i 1).val - 128))⟩
    by_cases h2 : 192 ≤ (i 0).val
    · obtain ⟨j, j0, j1⟩ := hj ((i 0).val - 192) (by omega)
      exact (stackOn_right s a b d i j (by omega) j1).trans (stackOn_right s' a b d i j (by omega) j1).symm
    · by_cases h1 : 96 ≤ (i 0).val
      · obtain ⟨j, j0, j1⟩ := hj ((i 0).val - 96) (by omega)
        exact (stackOn_left s a b d i j (by omega) j1).trans (stackOn_left s' a b d i j (by omega) j1).symm
      · obtain ⟨j, j0, j1⟩ := hj (i 0).val (by omega)
        exact (stackOn_mid s a b d i j (by omega) j1).trans (stackOn_mid s' a b d i j (by omega) j1).symm

theorem stackOn_eq {s : Vec F S288x16640 .bf16} (hs : Margins s) (a b d : Vec F S96x16384 .bf16) :
    stackOn s a b d = stackOn (fun _ => zc) a b d :=
  funext fun i => stackOn_congr _ _ _ _ _ i fun h => hs i h

/-- The centre window reads no margin. -/
theorem window_mid (s s' : Vec F S288x16640 .bf16) (a b d : Vec F S96x16384 .bf16) :
    window (stackOn s a b d) ![0, 128] S288x16384.size inb_S288x16640_S288x16384_0_128
      = window (stackOn s' a b d) ![0, 128] S288x16384.size inb_S288x16640_S288x16384_0_128 := by
  funext y
  refine stackOn_congr _ _ _ _ _ _ fun h => absurd h ?_
  have h1 : (y 1).val < 16384 := (y 1).isLt
  have e : ((Rect.unit (s := S288x16640) ![0, 128] S288x16384.size inb_S288x16640_S288x16384_0_128).emb y 1).val = 128 + 1 * (y 1).val := rfl
  omega

/-! ## The run's buffers -/

section Reads
variable {κ : Kind} {sp : Space}

/-- The scratch after the three band stores. -/
theorem read_bands (v : View sig κ sp S288x16640 .bf16) (f : v.ty.Contents (Elt F)) (a b d : Vec F S96x16384 .bf16) (L : List (View.Piece (Elt F) S288x16640 .bf16)) :
    v.read (Elt F) (v.writes (Elt F) f (⟨Rect.unit ![192, 128] S96x16384.size inb_S288x16640_S96x16384_192_128, d⟩
      :: ⟨Rect.unit ![96, 128] S96x16384.size inb_S288x16640_S96x16384_96_128, b⟩
      :: ⟨Rect.unit ![0, 128] S96x16384.size inb_S288x16640_S96x16384_0_128, a⟩ :: L))
      = stackOn (v.read (Elt F) (v.writes (Elt F) f L)) a b d := by
  rw [View.read_writes_cons_put v f _ _ _ rfl, View.read_writes_cons_put v f _ _ _ rfl, View.read_writes_cons_put v f _ _ _ rfl]; rfl

/-- The two margin stores leave zero margins, whatever was there. -/
theorem margins_init (v : View sig κ sp S288x16640 .bf16) (f : v.ty.Contents (Elt F)) :
    Margins (v.read (Elt F) (v.writes (Elt F) f [⟨Rect.unit ![0, 16512] S288x128.size inb_S288x16640_S288x128_0_16512, k0_pay6 (F := F)⟩,
      ⟨Rect.unit ![0, 0] S288x128.size inb_S288x16640_S288x128_0_0, k0_pay5 (F := F)⟩])) := by
  intro i h
  have hr : (i 0).val < 288 := (i 0).isLt
  have hc : (i 1).val < 16640 := (i 1).isLt
  rw [View.read_writes_cons_put v f _ _ _ rfl, View.read_writes_cons_put v f _ _ _ rfl]
  unfold put
  by_cases h1 : 16512 ≤ (i 1).val
  · rw [dif_pos (by intro k; fin_cases k <;> simp <;> omega)]; rfl
  · rw [dif_neg (fun hall => h1 (hall 1).1), dif_pos (by intro k; fin_cases k <;> simp <;> omega)]; rfl

/-- The hidden layer's loads: the three weight rows, the three windows of the scratch (the centre one possibly read
    off other contents that agree there) and the bias. -/
theorem hid_read {κ₂ κ₃ κ₈ : Kind} {sp₂ sp₃ sp₈ : Space} (v2 : View sig κ₂ sp₂ S3x96x288 .bf16) (v3 : View sig κ₃ sp₃ S96x1 .f32) (v8 : View sig κ₈ sp₈ S288x16640 .bf16)
    (f2 : v2.ty.Contents (Elt F)) (f3 : v3.ty.Contents (Elt F)) (f8 f8' : v8.ty.Contents (Elt F)) (w : Vec F S3x96x288 .bf16) (b : Vec F S96x1 .f32)
    (s : Vec F S288x16640 .bf16) (h2 : v2.read (Elt F) f2 = w) (h3 : v3.read (Elt F) f3 = b) (h8 : v8.read (Elt F) f8 = s)
    (h8' : window (v8.read (Elt F) f8') ![0, 128] S288x16384.size inb_S288x16640_S288x16384_0_128 = window s ![0, 128] S288x16384.size inb_S288x16640_S288x16384_0_128) :
    k0_pay15 (View.readAt (Elt F) v2 (Rect.unit (s := S3x96x288) ![0, 0, 0] S1x96x288.size inb_S3x96x288_S1x96x288_0_0_0).toLoadRect f2)
      (View.readAt (Elt F) v8 (Rect.unit (s := S288x16640) ![0, 0] S288x16384.size inb_S288x16640_S288x16384_0_0).toLoadRect f8)
      (View.readAt (Elt F) v2 (Rect.unit (s := S3x96x288) ![1, 0, 0] S1x96x288.size inb_S3x96x288_S1x96x288_1_0_0).toLoadRect f2)
      (View.readAt (Elt F) v8 (Rect.unit (s := S288x16640) ![0, 128] S288x16384.size inb_S288x16640_S288x16384_0_128).toLoadRect f8')
      (View.readAt (Elt F) v2 (Rect.unit (s := S3x96x288) ![2, 0, 0] S1x96x288.size inb_S3x96x288_S1x96x288_2_0_0).toLoadRect f2)
      (View.readAt (Elt F) v8 (Rect.unit (s := S288x16640) ![0, 256] S288x16384.size inb_S288x16640_S288x16384_0_256).toLoadRect f8)
      (View.readAt (Elt F) v3 (Rect.unit (s := S96x1) ![0, 0] S96x1.size inb_S96x1_S96x1_0_0).toLoadRect f3)
      = hid w b s := by
  subst h2 h3 h8
  rw [View.readAt_unit v8 f8' _ rfl inb_S288x16640_S288x16384_0_128, h8', View.readAt_full v3]
  rfl

end Reads

/-- The block step `t` waits, read from the slot it landed in, is block `t` of the image array. -/
theorem slot_read (c : Dev nD) (t : Fin cfg0.N) (W : HbBuf (F := F) c hbX) (inb : ∀ a, k0_off7 (grid0.coords t) a + S1x96x128x128.size a ≤ S2x96x128x128.size a)
    (f : HbBuf (F := F) c (ringSlot (Ring.sl 2 t.val))) :
    View.readAt (Elt F) scRing.view (Rect.unit (s := S2x96x128x128) (k0_off7 (grid0.coords t)) S1x96x128x128.size inb).toLoadRect
      ((ringSlot (Ring.sl 2 t.val)).view.writes (Elt F) f
        [⟨Rect.whole S96x128x128, ReadAs.same.apply (View.read (Elt F) (srcBlk (Ring.bk 16 t.val)).view W)⟩])
      = xblk W (Ring.bk 16 t.val) := by
  have h := View.read_writes_whole (Val := Elt F) (ringSlot (Ring.sl 2 t.val)).view f (ReadAs.same.apply (View.read (Elt F) (srcBlk (Ring.bk 16 t.val)).view W))
  refine (View.readAt_unit scRing.view _ inb (off_eq10 t) (inb_slot _)).trans ?_
  funext y
  have hy := congrFun h ((Shape.reshapeEquiv squeezes_S1x96x128x128_S96x128x128.numel_eq).symm y)
  have e1 : ∀ g : HbBuf (F := F) c (ringSlot (Ring.sl 2 t.val)), View.read (Elt F) (ringSlot (Ring.sl 2 t.val)).view g ((Shape.reshapeEquiv squeezes_S1x96x128x128_S96x128x128.numel_eq).symm y)
      = window (View.read (Elt F) scRing.view g) ![(Ring.sl 2 t.val).val, 0, 0, 0] S1x96x128x128.size (inb_slot _) (Shape.reshapeEquiv squeezes_S1x96x128x128_S96x128x128.numel_eq ((Shape.reshapeEquiv squeezes_S1x96x128x128_S96x128x128.numel_eq).symm y)) := fun g => rfl
  have e2 : View.read (Elt F) (srcBlk (Ring.bk 16 t.val)).view W ((Shape.reshapeEquiv squeezes_S1x96x128x128_S96x128x128.numel_eq).symm y)
      = xblk W (Ring.bk 16 t.val) (Shape.reshapeEquiv squeezes_S1x96x128x128_S96x128x128.numel_eq ((Shape.reshapeEquiv squeezes_S1x96x128x128_S96x128x128.numel_eq).symm y)) := rfl
  rw [e1, Equiv.apply_symm_apply] at hy
  rw [Equiv.apply_symm_apply] at e2
  exact hy.trans e2

end Cert.KernelIdeal.Conv

end
-- ==== Proof.Model.lean ====
/- What the network computes, as sums over the extended reals: the image with a border of zeros, one tap of the 3×3
   convolution, the rectified hidden layer, and a 1×1 head over it. -/
module

public import Idealize.ShloMosaic.Lib.Pointwise

@[expose] public section

noncomputable section

namespace Cert.Net

open Idealize.ShloMosaic

abbrev ImgShape : Shape := ⟨4, ![16, 96, 128, 128]⟩
abbrev TapShape : Shape := ⟨4, ![96, 96, 3, 3]⟩

/-- A square picture inside a border of zeros one wide: rows and columns are counted from the border's corner. -/
def bordered (f : Fin 128 → Fin 128 → EReal) (r s : ℕ) : EReal :=
  if h : (1 ≤ r ∧ r - 1 < 128) ∧ (1 ≤ s ∧ s - 1 < 128) then f ⟨r - 1, h.1.2⟩ ⟨s - 1, h.2.2⟩ else 0

theorem bordered_in (f : Fin 128 → Fin 128 → EReal) {r s : ℕ} (a b : Fin 128) (hr : r = a.val + 1) (hs : s = b.val + 1) :
    bordered f r s = f a b := by
  subst hr hs
  unfold bordered
  rw [dif_pos ⟨⟨by omega, by have := a.isLt; omega⟩, ⟨by omega, by have := b.isLt; omega⟩⟩]
  congr

theorem bordered_out (f : Fin 128 → Fin 128 → EReal) {r s : ℕ} (h : ¬((1 ≤ r ∧ r - 1 < 128) ∧ (1 ≤ s ∧ s - 1 < 128))) :
    bordered f r s = 0 := dif_neg h

/-- Channel `ci` of image `n`. -/
def plane (X : ImgShape.Idx → EReal) (n : Fin 16) (ci : Fin 96) (a b : Fin 128) : EReal := X (ix4 n ci a b)

/-- One tap of the convolution at `(y, x)`: the sum over the channels in. -/
def tap (X : ImgShape.Idx → EReal) (W : TapShape.Idx → EReal) (n : Fin 16) (co : Fin 96) (y x : Fin 128) (dy dx : Fin 3) : EReal :=
  ∑ ci : Fin 96, bordered (plane X n ci) (dy.val + y.val) (dx.val + x.val) * W (ix4 co ci dy dx)

/-- The convolution and its bias, before rectifying. -/
def preact (X : ImgShape.Idx → EReal) (W : TapShape.Idx → EReal) (b : Fin 96 → EReal) (n : Fin 16) (co : Fin 96) (y x : Fin 128) : EReal :=
  tap X W n co y x 0 0 + tap X W n co y x 0 1 + tap X W n co y x 0 2
    + tap X W n co y x 1 0 + tap X W n co y x 1 1 + tap X W n co y x 1 2
    + tap X W n co y x 2 0 + tap X W n co y x 2 1 + tap X W n co y x 2 2 + b co

/-- One output channel of a head: `h` its weights over the hidden channels, `β` its bias. -/
def head (X : ImgShape.Idx → EReal) (W : TapShape.Idx → EReal) (b : Fin 96 → EReal) (h : Fin 96 → EReal) (β : EReal)
    (n : Fin 16) (y x : Fin 128) : EReal :=
  ∑ k : Fin 96, max (preact X W b n k y x) 0 * h k + β

end Cert.Net
-- ==== Proof.StackAt.lean ====
/- The stacked scratch at an index, over the extended reals: three copies of the image inside a border of zeros, the
   second one column to the left of the first and the third one to the right. -/
module

public import proofs.«01_k».proof.Proof.Stack
public import proofs.«01_k».proof.Proof.Model

@[expose] public section

set_option maxRecDepth 16384

noncomputable section

namespace Cert.KernelIdeal.Conv

open Cert.KernelIdeal Cert.KernelIdeal.Gen
open Idealize.ShloMosaic
open Cert.Net (bordered bordered_in bordered_out)

/-- The low seven bits of a small number's word. -/
theorem low_bits (p : ℕ) (h : p < 16384) : IntOp.andi (BitVec.ofNat 32 p) 127#32 = BitVec.ofNat 32 (p % 128) := by
  apply BitVec.eq_of_toNat_eq
  show (BitVec.ofNat 32 p &&& 127#32).toNat = _
  rw [BitVec.toNat_and, BitVec.toNat_ofNat, BitVec.toNat_ofNat, BitVec.toNat_ofNat]
  have e : (127 % 2 ^ 32 : ℕ) = 2 ^ 7 - 1 := by decide
  rw [e, Nat.and_two_pow_sub_one_eq_mod, Nat.mod_eq_of_lt (show p < 2 ^ 32 by omega), show p % 2 ^ 7 = p % 128 from rfl, Nat.mod_eq_of_lt (show p % 128 < 2 ^ 32 by omega)]

/-- A test for difference, as a number. -/
theorem differs (k : ℕ) (q : ℕ) (hk : k < 2 ^ 32) (hq : q < 2 ^ 32) :
    (FloatOps.sitofp (F := Ideal) FTy.f32 (BitVec.setWidth 32 (IntOp.cmpi .ne (BitVec.ofNat 32 k) (BitVec.ofNat 32 q))) : EReal)
      = if k = q then 0 else 1 := by
  show ((((BitVec.setWidth 32 (IntOp.cmpi .ne (BitVec.ofNat 32 k) (BitVec.ofNat 32 q))).toInt : ℤ) : ℝ) : EReal) = _
  have e : (BitVec.ofNat 32 k != BitVec.ofNat 32 q) = decide (k ≠ q) := by
    by_cases h : k = q
    · subst h; simp
    · have hne : BitVec.ofNat 32 k ≠ BitVec.ofNat 32 q := fun h' => h (by
        have := congrArg BitVec.toNat h'
        rwa [BitVec.toNat_ofNat, BitVec.toNat_ofNat, Nat.mod_eq_of_lt hk, Nat.mod_eq_of_lt hq] at this)
      simp [h, hne]
  unfold IntOp.cmpi
  simp only [e]
  by_cases h : k = q
  · simp [h]
  · simp [h]

/-- The left mask: 0 in the first column of every row, 1 elsewhere. -/
theorem mask_left (o : Fin 96) (p : Fin 16384) : (k0_pay8 (F := Ideal) (ix2 o p) : EReal) = if p.val % 128 = 0 then 0 else 1 := by
  pointwise [k0_pay8, k0_pay7, low_bits p.val p.isLt]
  exact differs _ 0 (by omega) (by omega)
/-- The right mask: 0 in the last column. -/
theorem mask_right (o : Fin 96) (p : Fin 16384) : (k0_pay9 (F := Ideal) (ix2 o p) : EReal) = if p.val % 128 = 127 then 0 else 1 := by
  pointwise [k0_pay9, k0_pay7, low_bits p.val p.isLt]
  exact differs _ 127 (by omega) (by omega)

variable (v : Vec Ideal S1x96x128x128 .f32)

/-- Channel `ci` of the block. -/
def chan (ci : Fin 96) (a b : Fin 128) : EReal := v (ix4 0 ci a b)

theorem ix4_congr (ci : Fin 96) (a b a' b' : Fin 128) (ha : a.val = a'.val) (hb : b.val = b'.val) :
    (v (ix4 0 ci a b) : EReal) = chan v ci a' b' := by
  obtain rfl := Fin.ext ha
  obtain rfl := Fin.ext hb
  rfl

theorem zc_zero : (zc (F := Ideal) : EReal) = 0 := by
  simp [zc, Ideal.ofBits, Ideal.ieee]

/-- The first band at column `128 r + x`: the image itself. -/
theorem band_mid (ci : Fin 96) (i : Fin 288) (q : Fin 16640) (r x : ℕ) (hi : i.val = ci.val) (hq : q.val = 128 * r + x) (hx : x < 128) :
    (stk v (k0_pay8 (F := Ideal)) (k0_pay9 (F := Ideal)) (ix2 i q) : EReal) = bordered (chan v ci) r (1 + x) := by
  by_cases hr : 1 ≤ r ∧ r - 1 < 128
  · rw [bordered_in (chan v ci) ⟨r - 1, hr.2⟩ ⟨x, hx⟩ (by show r = r - 1 + 1; omega) (by show 1 + x = x + 1; omega)]
    refine (stackOn_mid _ _ _ _ (ix2 i q) (ix2 ci ⟨q.val - 128, by omega⟩) hi (by show q.val = 128 + (q.val - 128); omega)).trans ?_
    pointwise [k0_pay11, k0_pay10]
    exact ix4_congr v ci _ _ _ _ (by show (q.val - 128) / 128 = r - 1; omega) (by show (q.val - 128) % 128 = x; omega)
  · rw [bordered_out _ (fun h => hr h.1)]
    exact (margins_stk v _ _ (ix2 i q) (by show q.val < 128 ∨ 16512 ≤ q.val; omega)).trans zc_zero

/-- The second band: the image one column further left. -/
theorem band_left (ci : Fin 96) (i : Fin 288) (q : Fin 16640) (r x : ℕ) (hi : i.val = 96 + ci.val) (hq : q.val = 128 * r + x) (hx : x < 128) :
    (stk v (k0_pay8 (F := Ideal)) (k0_pay9 (F := Ideal)) (ix2 i q) : EReal) = bordered (chan v ci) r (0 + x) := by
  by_cases hr : 1 ≤ r ∧ r - 1 < 128
  · refine (stackOn_left _ _ _ _ (ix2 i q) (ix2 ci ⟨q.val - 128, by omega⟩) hi (by show q.val = 128 + (q.val - 128); omega)).trans ?_
    pointwise [k0_pay13, k0_pay12, k0_pay10, mask_left]
    by_cases h0 : x = 0
    · rw [if_pos (show (q.val - 128) % 128 = 0 by omega), mul_zero, bordered_out _ (by omega)]
    · rw [if_neg (show ¬(q.val - 128) % 128 = 0 by omega), mul_one, dif_neg (show ¬ (q.val - 128 < 1) by omega),
        bordered_in (chan v ci) ⟨r - 1, hr.2⟩ ⟨x - 1, by omega⟩ (by show r = r - 1 + 1; omega) (by show x = x - 1 + 1; omega)]
      exact ix4_congr v ci _ _ _ _ (by show (q.val - 128 - 1) / 128 = r - 1; omega) (by show (q.val - 128 - 1) % 128 = x - 1; omega)
  · rw [bordered_out _ (fun h => hr h.1)]
    exact (margins_stk v _ _ (ix2 i q) (by show q.val < 128 ∨ 16512 ≤ q.val; omega)).trans zc_zero

/-- The third band: the image one column further right. -/
theorem band_right (ci : Fin 96) (i : Fin 288) (q : Fin 16640) (r x : ℕ) (hi : i.val = 192 + ci.val) (hq : q.val = 128 * r + x) (hx : x < 128) :
    (stk v (k0_pay8 (F := Ideal)) (k0_pay9 (F := Ideal)) (ix2 i q) : EReal) = bordered (chan v ci) r (2 + x) := by
  by_cases hr : 1 ≤ r ∧ r - 1 < 128
  · refine (stackOn_right _ _ _ _ (ix2 i q) (ix2 ci ⟨q.val - 128, by omega⟩) hi (by show q.val = 128 + (q.val - 128); omega)).trans ?_
    pointwise [k0_pay14, k0_pay10, mask_right]
    by_cases h0 : x = 127
    · rw [if_pos (show (q.val - 128) % 128 = 127 by omega), mul_zero, bordered_out _ (by omega)]
    · rw [if_neg (show ¬(q.val - 128) % 128 = 127 by omega), mul_one, dif_pos (show q.val - 128 < 16383 by omega),
        bordered_in (chan v ci) ⟨r - 1, hr.2⟩ ⟨x + 1, by omega⟩ (by show r = r - 1 + 1; omega) (by show 2 + x = x + 1 + 1; omega)]
      exact ix4_congr v ci _ _ _ _ (by show (1 + (q.val - 128)) / 128 = r - 1; omega) (by show (1 + (q.val - 128)) % 128 = x + 1; omega)
  · rw [bordered_out _ (fun h => hr h.1)]
    exact (margins_stk v _ _ (ix2 i q) (by show q.val < 128 ∨ 16512 ≤ q.val; omega)).trans zc_zero

end Cert.KernelIdeal.Conv
-- ==== Proof.RunFirst.lean ====
/- The whole-body run of the ideal kernel at the first point, every buffer's contents named. -/
module

public import proofs.«01_k».proof.Proof.Stack

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body's triple at the first point (the margins and the masks written, the first two blocks started): on whole
    staging memrefs, the inputs' at their contents and the rest at anything, it leaves the two output blocks and the
    stacked scratch of block 0. -/
theorem run_first (c : Dev nD) (t : Fin cfg0.N) (arg2 : Memref sig .tc .vmem S3x96x288 .bf16) (harg2 : arg2.IsWhole) (arg3 : Memref sig .tc .vmem S96x1 .f32) (harg3 : arg3.IsWhole) (arg4 : Memref sig .tc .vmem S80x96 .bf16) (harg4 : arg4.IsWhole) (arg5 : Memref sig .tc .vmem S80x1 .f32) (harg5 : arg5.IsWhole) (arg6 : Memref sig .tc .vmem S1x15x128x128 .f32) (harg6 : arg6.IsWhole) (arg7 : Memref sig .tc .vmem S1x60x128x128 .f32) (harg7 : arg7.IsWhole) (arg8 : Memref sig .tc .vmem S288x16640 .bf16) (harg8 : arg8.IsWhole) (arg10 : Memref sig .tc .vmem S96x16384 .bf16) (harg10 : arg10.IsWhole) (arg11 : Memref sig .tc .vmem S96x16384 .bf16) (harg11 : arg11.IsWhole) (hc0 : condFirst (grid0.coords t)) (hc1 : condMore (grid0.coords t)) (hc2 : condInit (grid0.coords t))
    (x0 : Vec F S3x96x288 .bf16) (x1 : Vec F S96x1 .f32) (x2 : Vec F S80x96 .bf16) (x3 : Vec F S80x1 .f32) (fh0 : HbBuf (F := F) c hbX) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg10 fullShare d) ∗ (∃ d, owns (c : Thread nD τ) arg11 fullShare d) ∗ Ring.free (cellPt c) (slotOf c fh0) (Ring.sl 2 t.val) ∗ Ring.free (cellPt c) (slotOf c fh0) (Ring.sl 2 (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (clsOut x0 x1 x2 x3 (stk (xblk fh0 (Ring.bk 16 t.val)) k0_pay8 k0_pay9)) ∗ owns (c : Thread nD τ) arg7 fullShare (boxOut x0 x1 x2 x3 (stk (xblk fh0 (Ring.bk 16 t.val)) k0_pay8 k0_pay9)) ∗ owns (c : Thread nD τ) arg8 fullShare (stk (xblk fh0 (Ring.bk 16 t.val)) k0_pay8 k0_pay9) ∗ owns (c : Thread nD τ) arg10 fullShare k0_pay8 ∗ owns (c : Thread nD τ) arg11 fullShare k0_pay9 ∗ Ring.inflight (flightOf c fh0) (Ring.sl 2 (t.val + 1)) (Ring.bk 16 (t.val + 1)) ∗ Ring.kept (cellPt c) (slotOf c fh0) (landed c fh0) (Ring.sl 2 t.val) (Ring.bk 16 t.val) ∗ (∃ W', owes (c : Thread nD τ) 0 W')) -∗ K ⟨⟩))
          ⊢ wp frame (wpE (defs₀ (F := F)) Variants.none c none) Set.univ (cc0__body (grid0.coords t) (Memref.whole main_arg0) (Memref.isWhole_whole _) arg2 harg2 arg3 harg3 arg4 harg4 arg5 harg5 arg6 harg6 arg7 harg7 arg8 harg8 scRing (Memref.isWhole_whole _) arg10 harg10 arg11 harg11 cc0_scratch4) K := by
    intro W K
    haveI : Fact (condFirst (grid0.coords t)) := ⟨hc0⟩
    haveI : Fact (condMore (grid0.coords t)) := ⟨hc1⟩
    haveI : Fact (condInit (grid0.coords t)) := ⟨hc2⟩
    simp only [cc0__body_eq_skeleton]; unfold cc0__body_skel
    simp only [k0_part1_eq_skeleton, k0_part2_eq_skeleton]
    have hcanon0 := canon1 t hc0 hc1 hc2
    have hcanon1 := canon2 t hc0 hc1 hc2
    have hcanon2 := canon3 t hc0 hc1 hc2
    unfold owns Ring.free Ring.inflight Ring.kept
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds2, %fs2, -, HS2⟩, ⟨%ds3, %fs3, -, HS3⟩, ⟨Hc0_0_0, ⟨%fs0_0_0, Hs0_0_0, Hw0_0_0⟩⟩, ⟨Hc0_0_1, ⟨%fs0_0_1, Hs0_0_1, Hw0_0_1⟩⟩, HW, Hk⟩
    ihave Hsp0_0_0 := (src_split c fh0 (Ring.sl 2 t.val) (Ring.bk 16 t.val)).1 $$ Hw0_0_0
    icases Hsp0_0_0 with ⟨Hh0_0_0, Hr0_0_0⟩
    ihave Hsp0_0_1 := (src_split c fh0 (Ring.sl 2 (t.val + 1)) (Ring.bk 16 (t.val + 1))).1 $$ Hw0_0_1
    icases Hsp0_0_1 with ⟨Hh0_0_1, Hr0_0_1⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2)
    sl_step
    have hv : run_first.sl.v20 c t fh0 = xblk fh0 (Ring.bk 16 t.val) := slot_read c t fh0 _ _
    have h2 : ∀ f, View.read (Elt F) arg10.view (arg10.view.writes (Elt F) f run_first.sl.HS2_1) = k0_pay8 := fun f => by
      unfold run_first.sl.HS2_1; exact View.read_writes_full arg10.view f _ _ []
    have h3 : ∀ f, View.read (Elt F) arg11.view (arg11.view.writes (Elt F) f run_first.sl.HS3_1) = k0_pay9 := fun f => by
      unfold run_first.sl.HS3_1; exact View.read_writes_full arg11.view f _ _ []
    have hv2 : run_first.sl.v30 c arg10 = k0_pay8 (F := F) := (View.readAt_full arg10.view _ _).trans (h2 arg10.view.junk)
    have hv3 : run_first.sl.v38 c arg11 = k0_pay9 (F := F) := (View.readAt_full arg11.view _ _).trans (h3 arg11.view.junk)
    have hS : ∀ f, View.read (Elt F) arg8.view (arg8.view.writes (Elt F) f (run_first.sl.HS0_5 c t arg10 arg11 fh0))
        = stk (xblk fh0 (Ring.bk 16 t.val)) k0_pay8 k0_pay9 := fun f => by
      unfold run_first.sl.HS0_5 run_first.sl.r_1 run_first.sl.r
      rw [hv, hv2, hv3]
      exact (read_bands arg8.view f _ _ _ _).trans (stackOn_eq (margins_init arg8.view f) _ _ _)
    have hr : run_first.sl.r_2 c t arg2 harg2 arg3 harg3 arg8 arg10 arg11 x0 x1 fh0
        = hid x0 x1 (stk (xblk fh0 (Ring.bk 16 t.val)) k0_pay8 k0_pay9) := by
      unfold run_first.sl.r_2 run_first.sl.v45 run_first.sl.v49 run_first.sl.v54
      exact hid_read arg2.view arg3.view arg8.view _ _ (arg8.view.writes (Elt F) arg8.view.junk _) (arg8.view.writes (Elt F) arg8.view.junk _) _ _ _ hf0 hf1 (hS _)
        (by rw [hS])
    rw [hr]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_full arg6.view _ _ _ []).trans ?_
      rw [View.readAt_full arg4.view, View.readAt_full arg5.view, hf2, hf3]; rfl
    isplitl [H5]
    · iexists _; isplitr; swap; · iexact H5
      ipureintro
      refine (View.read_writes_full arg7.view _ _ _ []).trans ?_
      rw [View.readAt_full arg4.view, View.readAt_full arg5.view, hf2, hf3]; rfl
    isplitl [HS0]
    · iexists _; isplitr; swap; · iexact HS0
      ipureintro; exact hS _
    isplitl [HS2]
    · iexists _; isplitr; swap; · iexact HS2
      ipureintro; exact h2 _
    isplitl [HS3]
    · iexists _; isplitr; swap; · iexact HS3
      ipureintro; exact h3 _
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src_split c fh0 (Ring.sl 2 t.val) (Ring.bk 16 t.val)).2; isplitl [Hh0_0_0]; · iexact Hh0_0_0
      iexact Hr0_0_0
    iexists _; iexact HW

end Cert.KernelIdeal.Conv

end
-- ==== Proof.RunMid.lean ====
/- The whole-body run of the ideal kernel at the points 1 to 14, every buffer's contents named. -/
module

public import proofs.«01_k».proof.Proof.RunFirst

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body's triple at points 1 to 14: on whole staging memrefs, the inputs' at their contents, the scratch with zero
    margins and the masks at any contents, it leaves the two output blocks and the stacked scratch of block `t`. -/
theorem run_mid (c : Dev nD) (t : Fin cfg0.N) (arg2 : Memref sig .tc .vmem S3x96x288 .bf16) (harg2 : arg2.IsWhole) (arg3 : Memref sig .tc .vmem S96x1 .f32) (harg3 : arg3.IsWhole) (arg4 : Memref sig .tc .vmem S80x96 .bf16) (harg4 : arg4.IsWhole) (arg5 : Memref sig .tc .vmem S80x1 .f32) (harg5 : arg5.IsWhole) (arg6 : Memref sig .tc .vmem S1x15x128x128 .f32) (harg6 : arg6.IsWhole) (arg7 : Memref sig .tc .vmem S1x60x128x128 .f32) (harg7 : arg7.IsWhole) (arg8 : Memref sig .tc .vmem S288x16640 .bf16) (harg8 : arg8.IsWhole) (arg10 : Memref sig .tc .vmem S96x16384 .bf16) (harg10 : arg10.IsWhole) (arg11 : Memref sig .tc .vmem S96x16384 .bf16) (harg11 : arg11.IsWhole) (hc0 : ¬condFirst (grid0.coords t)) (hc1 : condMore (grid0.coords t)) (hc2 : ¬condInit (grid0.coords t))
    (x0 : Vec F S3x96x288 .bf16) (x1 : Vec F S96x1 .f32) (x2 : Vec F S80x96 .bf16) (x3 : Vec F S80x1 .f32) (s : Vec F S288x16640 .bf16) (hs : Margins s) (ml mr : Vec F S96x16384 .bf16) (fh0 : HbBuf (F := F) c hbX) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare s ∗ owns (c : Thread nD τ) arg10 fullShare ml ∗ owns (c : Thread nD τ) arg11 fullShare mr ∗ Ring.inflight (flightOf c fh0) (Ring.sl 2 t.val) (Ring.bk 16 t.val) ∗ Ring.kept (cellPt c) (slotOf c fh0) (landed c fh0) (Ring.sl 2 (t.val + 1)) (Ring.bk 16 (t.val - 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (clsOut x0 x1 x2 x3 (stk (xblk fh0 (Ring.bk 16 t.val)) ml mr)) ∗ owns (c : Thread nD τ) arg7 fullShare (boxOut x0 x1 x2 x3 (stk (xblk fh0 (Ring.bk 16 t.val)) ml mr)) ∗ owns (c : Thread nD τ) arg8 fullShare (stk (xblk fh0 (Ring.bk 16 t.val)) ml mr) ∗ owns (c : Thread nD τ) arg10 fullShare ml ∗ owns (c : Thread nD τ) arg11 fullShare mr ∗ Ring.inflight (flightOf c fh0) (Ring.sl 2 (t.val + 1)) (Ring.bk 16 (t.val + 1)) ∗ Ring.kept (cellPt c) (slotOf c fh0) (landed c fh0) (Ring.sl 2 t.val) (Ring.bk 16 t.val) ∗ (∃ W', owes (c : Thread nD τ) 0 W')) -∗ K ⟨⟩))
          ⊢ wp frame (wpE (defs₀ (F := F)) Variants.none c none) Set.univ (cc0__body (grid0.coords t) (Memref.whole main_arg0) (Memref.isWhole_whole _) arg2 harg2 arg3 harg3 arg4 harg4 arg5 harg5 arg6 harg6 arg7 harg7 arg8 harg8 scRing (Memref.isWhole_whole _) arg10 harg10 arg11 harg11 cc0_scratch4) K := by
    intro W K
    haveI : Fact (¬condFirst (grid0.coords t)) := ⟨hc0⟩
    haveI : Fact (condMore (grid0.coords t)) := ⟨hc1⟩
    haveI : Fact (¬condInit (grid0.coords t)) := ⟨hc2⟩
    simp only [cc0__body_eq_skeleton]; unfold cc0__body_skel
    simp only [k0_part1_eq_skeleton, k0_part2_eq_skeleton]
    unfold owns Ring.inflight Ring.kept
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hs0, HS0⟩, ⟨%fs2, %hs2, HS2⟩, ⟨%fs3, %hs3, HS3⟩, ⟨%ff0_0, Hf0_0, Hrf0_0⟩, ⟨Hc0_0_1, ⟨%fs0_0_1, Hs0_0_1, Hw0_0_1⟩⟩, HW, Hk⟩
    ihave Hsp0_0_1 := (src_split c fh0 (Ring.sl 2 (t.val + 1)) (Ring.bk 16 (t.val + 1))).1 $$ Hw0_0_1
    icases Hsp0_0_1 with ⟨Hh0_0_1, Hr0_0_1⟩
    obtain rfl := harg2.eq_unread hf0; obtain rfl := harg3.eq_unread hf1; obtain rfl := harg4.eq_unread hf2; obtain rfl := harg5.eq_unread hf3; obtain rfl := harg8.eq_unread hs0; obtain rfl := harg10.eq_unread hs2; obtain rfl := harg11.eq_unread hs3
    sl_exec (disch := first | sl_exact hc0 | sl_exact hc1 | sl_exact hc2)
    sl_step
    have hv : run_mid.sl.v20 c t fh0 = xblk fh0 (Ring.bk 16 t.val) := slot_read c t fh0 _ _
    have hB : ∀ f, View.read (Elt F) arg8.view (arg8.view.writes (Elt F) f (run_mid.sl.HS0_3 c t arg10 harg10 arg11 harg11 ml mr fh0))
        = stackOn (View.read (Elt F) arg8.view f) (k0_pay11 (xblk fh0 (Ring.bk 16 t.val))) (k0_pay13 (k0_pay12 (xblk fh0 (Ring.bk 16 t.val))) ml)
            (k0_pay14 (k0_pay10 (xblk fh0 (Ring.bk 16 t.val))) mr) := fun f => by
      unfold run_mid.sl.HS0_3 run_mid.sl.r_2 run_mid.sl.r_1 run_mid.sl.r
      rw [hv]
      refine (read_bands arg8.view f _ _ _ []).trans ?_
      rw [View.readAt_full arg10.view, View.readAt_full arg11.view, hs2, hs3]
      rfl
    have hS : View.read (Elt F) arg8.view (arg8.view.writes (Elt F) (harg8.unread s) (run_mid.sl.HS0_3 c t arg10 harg10 arg11 harg11 ml mr fh0))
        = stk (xblk fh0 (Ring.bk 16 t.val)) ml mr := by rw [hB, hs0]; exact stackOn_eq hs _ _ _
    have hr : run_mid.sl.r_3 c t arg2 harg2 arg3 harg3 arg8 harg8 arg10 harg10 arg11 harg11 x0 x1 s ml mr fh0
        = hid x0 x1 (stk (xblk fh0 (Ring.bk 16 t.val)) ml mr) := by
      unfold run_mid.sl.r_3 run_mid.sl.v49
      exact hid_read arg2.view arg3.view arg8.view _ _ _ (arg8.view.writes (Elt F) arg8.view.junk _) _ _ _ hf0 hf1 hS
        (by rw [hB]; exact window_mid _ _ _ _ _)
    rw [hr]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_full arg6.view _ _ _ []).trans ?_
      rw [View.readAt_full arg4.view, View.readAt_full arg5.view, hf2, hf3]; rfl
    isplitl [H5]
    · iexists _; isplitr; swap; · iexact H5
      ipureintro
      refine (View.read_writes_full arg7.view _ _ _ []).trans ?_
      rw [View.readAt_full arg4.view, View.readAt_full arg5.view, hf2, hf3]; rfl
    isplitl [HS0]
    · iexists _; isplitr; swap; · iexact HS0
      ipureintro; exact hS
    isplitl [HS2]
    · iexists _; isplitr; swap; · iexact HS2
      ipureintro; exact harg10.read_unread _
    isplitl [HS3]
    · iexists _; isplitr; swap; · iexact HS3
      ipureintro; exact harg11.read_unread _
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src_split c fh0 (Ring.sl 2 t.val) (Ring.bk 16 t.val)).2; isplitl [Hf0_0_src]; · iexact Hf0_0_src
      iexact Hrf0_0
    iexists _; iexact HW

end Cert.KernelIdeal.Conv

end
-- ==== Proof.RunLast.lean ====
/- The whole-body run of the ideal kernel at the last point, every buffer's contents named. -/
module

public import proofs.«01_k».proof.Proof.RunMid

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body's triple at the last point, where no block is left to start: on whole staging memrefs, the inputs' at their
    contents, the scratch with zero margins and the masks at any contents, it leaves the two output blocks and the
    stacked scratch of the last block. -/
theorem run_last (c : Dev nD) (t : Fin cfg0.N) (arg2 : Memref sig .tc .vmem S3x96x288 .bf16) (harg2 : arg2.IsWhole) (arg3 : Memref sig .tc .vmem S96x1 .f32) (harg3 : arg3.IsWhole) (arg4 : Memref sig .tc .vmem S80x96 .bf16) (harg4 : arg4.IsWhole) (arg5 : Memref sig .tc .vmem S80x1 .f32) (harg5 : arg5.IsWhole) (arg6 : Memref sig .tc .vmem S1x15x128x128 .f32) (harg6 : arg6.IsWhole) (arg7 : Memref sig .tc .vmem S1x60x128x128 .f32) (harg7 : arg7.IsWhole) (arg8 : Memref sig .tc .vmem S288x16640 .bf16) (harg8 : arg8.IsWhole) (arg10 : Memref sig .tc .vmem S96x16384 .bf16) (harg10 : arg10.IsWhole) (arg11 : Memref sig .tc .vmem S96x16384 .bf16) (harg11 : arg11.IsWhole) (hc0 : ¬condFirst (grid0.coords t)) (hc1 : ¬condMore (grid0.coords t)) (hc2 : ¬condInit (grid0.coords t))
    (x0 : Vec F S3x96x288 .bf16) (x1 : Vec F S96x1 .f32) (x2 : Vec F S80x96 .bf16) (x3 : Vec F S80x1 .f32) (s : Vec F S288x16640 .bf16) (hs : Margins s) (ml mr : Vec F S96x16384 .bf16) (fh0 : HbBuf (F := F) c hbX) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare s ∗ owns (c : Thread nD τ) arg10 fullShare ml ∗ owns (c : Thread nD τ) arg11 fullShare mr ∗ Ring.inflight (flightOf c fh0) (Ring.sl 2 t.val) (Ring.bk 16 t.val) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (clsOut x0 x1 x2 x3 (stk (xblk fh0 (Ring.bk 16 t.val)) ml mr)) ∗ owns (c : Thread nD τ) arg7 fullShare (boxOut x0 x1 x2 x3 (stk (xblk fh0 (Ring.bk 16 t.val)) ml mr)) ∗ owns (c : Thread nD τ) arg8 fullShare (stk (xblk fh0 (Ring.bk 16 t.val)) ml mr) ∗ owns (c : Thread nD τ) arg10 fullShare ml ∗ owns (c : Thread nD τ) arg11 fullShare mr ∗ Ring.kept (cellPt c) (slotOf c fh0) (landed c fh0) (Ring.sl 2 t.val) (Ring.bk 16 t.val) ∗ (∃ W', owes (c : Thread nD τ) 0 W')) -∗ K ⟨⟩))
          ⊢ wp frame (wpE (defs₀ (F := F)) Variants.none c none) Set.univ (cc0__body (grid0.coords t) (Memref.whole main_arg0) (Memref.isWhole_whole _) arg2 harg2 arg3 harg3 arg4 harg4 arg5 harg5 arg6 harg6 arg7 harg7 arg8 harg8 scRing (Memref.isWhole_whole _) arg10 harg10 arg11 harg11 cc0_scratch4) K := by
    intro W K
    haveI : Fact (¬condFirst (grid0.coords t)) := ⟨hc0⟩
    haveI : Fact (¬condMore (grid0.coords t)) := ⟨hc1⟩
    haveI : Fact (¬condInit (grid0.coords t)) := ⟨hc2⟩
    simp only [cc0__body_eq_skeleton]; unfold cc0__body_skel
    simp only [k0_part1_eq_skeleton, k0_part2_eq_skeleton]
    unfold owns Ring.inflight Ring.kept
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hs0, HS0⟩, ⟨%fs2, %hs2, HS2⟩, ⟨%fs3, %hs3, HS3⟩, ⟨%ff0_0, Hf0_0, Hrf0_0⟩, HW, Hk⟩
    obtain rfl := harg2.eq_unread hf0; obtain rfl := harg3.eq_unread hf1; obtain rfl := harg4.eq_unread hf2; obtain rfl := harg5.eq_unread hf3; obtain rfl := harg8.eq_unread hs0; obtain rfl := harg10.eq_unread hs2; obtain rfl := harg11.eq_unread hs3
    sl_exec (disch := first | sl_exact hc0 | sl_exact hc1 | sl_exact hc2)
    sl_step
    have hv : run_last.sl.v20 c t fh0 = xblk fh0 (Ring.bk 16 t.val) := slot_read c t fh0 _ _
    have hB : ∀ f, View.read (Elt F) arg8.view (arg8.view.writes (Elt F) f (run_last.sl.HS0_3 c t arg10 harg10 arg11 harg11 ml mr fh0))
        = stackOn (View.read (Elt F) arg8.view f) (k0_pay11 (xblk fh0 (Ring.bk 16 t.val))) (k0_pay13 (k0_pay12 (xblk fh0 (Ring.bk 16 t.val))) ml)
            (k0_pay14 (k0_pay10 (xblk fh0 (Ring.bk 16 t.val))) mr) := fun f => by
      unfold run_last.sl.HS0_3 run_last.sl.r_2 run_last.sl.r_1 run_last.sl.r
      rw [hv]
      refine (read_bands arg8.view f _ _ _ []).trans ?_
      rw [View.readAt_full arg10.view, View.readAt_full arg11.view, hs2, hs3]
      rfl
    have hS : View.read (Elt F) arg8.view (arg8.view.writes (Elt F) (harg8.unread s) (run_last.sl.HS0_3 c t arg10 harg10 arg11 harg11 ml mr fh0))
        = stk (xblk fh0 (Ring.bk 16 t.val)) ml mr := by rw [hB, hs0]; exact stackOn_eq hs _ _ _
    have hr : run_last.sl.r_3 c t arg2 harg2 arg3 harg3 arg8 harg8 arg10 harg10 arg11 harg11 x0 x1 s ml mr fh0
        = hid x0 x1 (stk (xblk fh0 (Ring.bk 16 t.val)) ml mr) := by
      unfold run_last.sl.r_3 run_last.sl.v49
      exact hid_read arg2.view arg3.view arg8.view _ _ _ (arg8.view.writes (Elt F) arg8.view.junk _) _ _ _ hf0 hf1 hS
        (by rw [hB]; exact window_mid _ _ _ _ _)
    rw [hr]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_full arg6.view _ _ _ []).trans ?_
      rw [View.readAt_full arg4.view, View.readAt_full arg5.view, hf2, hf3]; rfl
    isplitl [H5]
    · iexists _; isplitr; swap; · iexact H5
      ipureintro
      refine (View.read_writes_full arg7.view _ _ _ []).trans ?_
      rw [View.readAt_full arg4.view, View.readAt_full arg5.view, hf2, hf3]; rfl
    isplitl [HS0]
    · iexists _; isplitr; swap; · iexact HS0
      ipureintro; exact hS
    isplitl [HS2]
    · iexists _; isplitr; swap; · iexact HS2
      ipureintro; exact harg10.read_unread _
    isplitl [HS3]
    · iexists _; isplitr; swap; · iexact HS3
      ipureintro; exact harg11.read_unread _
    isplitl [Hf0_0 Hf0_0_dst Hf0_0_src Hrf0_0]
    · isplitl [Hf0_0]; · iexact Hf0_0
      iexists _; isplitl [Hf0_0_dst]; · iexact Hf0_0_dst
      iapply (src_split c fh0 (Ring.sl 2 t.val) (Ring.bk 16 t.val)).2; isplitl [Hf0_0_src]; · iexact Hf0_0_src
      iexact Hrf0_0
    iexists _; iexact HW

end Cert.KernelIdeal.Conv

end
-- ==== Proof.Region.lean ====
/- The ideal kernel's launch: the invariant between points, the proof data with both output blocks named, the body
   obligation point by point, the run of @main with the arrays it leaves, and the frame. -/
module

public import proofs.«01_k».proof.Proof.RunLast
public import Idealize.ShloMosaic.Lib.Claim

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The stacked scratch after point `t`, and the two blocks point `t` leaves. -/
def stkAt (c : Dev nD) (t : Fin 16) : Vec F S288x16640 .bf16 := stk (xblk (V m c main_arg0) t) k0_pay8 k0_pay9
def clsAt (c : Dev nD) (t : Fin cfg0.N) : Vec F S1x15x128x128 .f32 :=
  clsOut (iblk m c 0 t) (iblk m c 1 t) (iblk m c 2 t) (iblk m c 3 t) (stkAt m c (Ring.bk 16 t.val))
def boxAt (c : Dev nD) (t : Fin cfg0.N) : Vec F S1x60x128x128 .f32 :=
  boxOut (iblk m c 0 t) (iblk m c 1 t) (iblk m c 2 t) (iblk m c 3 t) (stkAt m c (Ring.bk 16 t.val))

/-- The carried scratch before point `k`: at anything before the first point; then the stack of the block before, and
    the masks. -/
def carried (c : Dev nD) (k : ℕ) : sProp 𝕄 :=
  if k = 0 then iprop((∃ d, owns (c : Thread nD τ) scStack fullShare d) ∗ (∃ d, owns (c : Thread nD τ) scMaskL fullShare d) ∗ (∃ d, owns (c : Thread nD τ) scMaskR fullShare d))
  else iprop(owns (c : Thread nD τ) scStack fullShare (stkAt m c (Ring.bk 16 (k - 1))) ∗ owns (c : Thread nD τ) scMaskL fullShare (k0_pay8 (F := F)) ∗ owns (c : Thread nD τ) scMaskR fullShare (k0_pay9 (F := F)))

/-- The region invariant before point `k`: the carried scratch, the generator register at some state, the ring. -/
def inv (c : Dev nD) (k : ℕ) : sProp 𝕄 := iprop(carried m c k ∗ (∃ r, prngReg c r) ∗ ringAt c (V m c main_arg0) k)

/-- The proof data on core `c`: the arrays as the region finds them; after the body each input's buffer at its block and
    the outputs' at the blocks named above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => clsAt m c t
    | ⟨5, _⟩ => boxAt m c t
  Φ t := inv m c t.val
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = clsAt m c t := by dsimp only [dats]
theorem after_5 (c : Dev nD) (t : Fin cfg0.N) : (dats m 0 c).after 5 t = boxAt m c t := by dsimp only [dats]

theorem before_0 (c : Dev nD) (t : Fin cfg0.N) (d) : (dats m 0 c).before 0 t d = iblk m c 0 t :=
  blockBefore0_of m (dats m 0 c) (A_eq m c 0) (after_0 m c) t d
theorem before_1 (c : Dev nD) (t : Fin cfg0.N) (d) : (dats m 0 c).before 1 t d = iblk m c 1 t :=
  blockBefore1_of m (dats m 0 c) (A_eq m c 1) (after_1 m c) t d
theorem before_2 (c : Dev nD) (t : Fin cfg0.N) (d) : (dats m 0 c).before 2 t d = iblk m c 2 t :=
  blockBefore2_of m (dats m 0 c) (A_eq m c 2) (after_2 m c) t d
theorem before_3 (c : Dev nD) (t : Fin cfg0.N) (d) : (dats m 0 c).before 3 t d = iblk m c 3 t :=
  blockBefore3_of m (dats m 0 c) (A_eq m c 3) (after_3 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 2400000 in
/-- The body at any point: the run of the point's role, its ring pieces taken from the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [after_0, after_1, after_2, after_3, after_4, after_5]
  rw [inv_castSucc m c t, inv_succ m c t]
  unfold Dat.owesAt Pipeline.owesWithin
  rw [show (dats m 0 c).owed t.castSucc = 0 from rfl, show (dats m 0 c).owed t.succ = 0 from rfl]
  unfold inv ringAt carried clsAt boxAt
  have hN : t.val < 16 := lt_of_lt_of_eq t.isLt (show cfg0.N = 16 from N_0)
  rw [if_neg (show ¬t.val + 1 = 0 by omega), if_neg (show ¬t.val + 1 = 0 by omega), show t.val + 1 - 1 = t.val from rfl]
  by_cases h0 : t.val % 16 = 0
  · have h1 : t.val < 15 := by omega
    obtain ⟨hK0, -⟩ := step_first t ((condFirst_iff t).mpr h0) ((condMore_iff t).mpr h1) ((condInit_iff t).mpr h0)
    rw [if_pos hK0, if_pos hK0]
    rw [Ring.At₀_eq2' _ _ _ t.val hK0 (by decide : 2 ≤ 16), Ring.AtK2_one' _ _ _ _ _ t.val hK0 (by decide : 1 < 16)]
    iintro ⟨⟨⟨HS0, HS2, HS3⟩, Hg, ⟨-, Hra, Hrb⟩⟩, ⟨%W, -, HW⟩, ⟨%d0, H0⟩, ⟨%d1, H1⟩, ⟨%d2, H2⟩, ⟨%d3, H3⟩, ⟨%d4, H4⟩, ⟨%d5, H5⟩⟩
    iapply ((run_first c t _ _ _ _ _ _ _ _ _ _ _ _ _ _ _ _ _ _ ((condFirst_iff t).mpr h0) ((condMore_iff t).mpr h1) ((condInit_iff t).mpr h0) (iblk m c 0 t) (iblk m c 1 t) (iblk m c 2 t) (iblk m c 3 t) (V m c main_arg0)) W _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS2]; · iexact HS2
    isplitl [HS3]; · iexact HS3
    isplitl [Hra]; · iexact Hra
    isplitl [Hrb]; · iexact Hrb
    isplitl [HW]; · iexact HW
    iintro ⟨H0, H1, H2, H3, H4, H5, HS0, HS2, HS3, Hfl, Hkp, ⟨%W', HW⟩⟩
    isplitl [HS0 HS2 HS3 Hg Hfl Hkp]
    · isplitl [HS0 HS2 HS3]
      · isplitl [HS0]; · iexact HS0
        isplitl [HS2]; · iexact HS2
        iexact HS3
      isplitl [Hg]; · iexact Hg
      iapply Ring.with_homes₀
      isplitl [Hfl]; · iexact Hfl
      iexact Hkp
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  · by_cases h1 : t.val < 15
    · obtain ⟨hK, hB, -⟩ := step_mid t (fun h => h0 ((condFirst_iff t).mp h)) ((condMore_iff t).mpr h1) (fun h => h0 ((condInit_iff t).mp h))
      rw [if_neg (show ¬t.val = 0 by omega), if_neg (show ¬t.val = 0 by omega)]
      rw [Ring.AtK2_here _ _ _ _ _ t.val hK hB, Ring.AtK2_next _ _ _ _ _ t.val hK hB]
      iintro ⟨⟨⟨HS0, HS2, HS3⟩, Hg, ⟨-, Hra, Hrb⟩⟩, ⟨%W, -, HW⟩, ⟨%d0, H0⟩, ⟨%d1, H1⟩, ⟨%d2, H2⟩, ⟨%d3, H3⟩, ⟨%d4, H4⟩, ⟨%d5, H5⟩⟩
      iapply ((run_mid c t _ _ _ _ _ _ _ _ _ _ _ _ _ _ _ _ _ _ (fun h => h0 ((condFirst_iff t).mp h)) ((condMore_iff t).mpr h1) (fun h => h0 ((condInit_iff t).mp h)) (iblk m c 0 t) (iblk m c 1 t) (iblk m c 2 t) (iblk m c 3 t) (stkAt m c (Ring.bk 16 (t.val - 1))) (margins_stk _ _ _) k0_pay8 k0_pay9 (V m c main_arg0)) W _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS2]; · iexact HS2
      isplitl [HS3]; · iexact HS3
      isplitl [Hra]; · iexact Hra
      isplitl [Hrb]; · iexact Hrb
      isplitl [HW]; · iexact HW
      iintro ⟨H0, H1, H2, H3, H4, H5, HS0, HS2, HS3, Hfl, Hkp, ⟨%W', HW⟩⟩
      isplitl [HS0 HS2 HS3 Hg Hfl Hkp]
      · isplitl [HS0 HS2 HS3]
        · isplitl [HS0]; · iexact HS0
          isplitl [HS2]; · iexact HS2
          iexact HS3
        isplitl [Hg]; · iexact Hg
        iapply (Ring.with_homes (Idealize.SL.BI.Entails.refl _))
        isplitl [Hfl]; · iexact Hfl
        iexact Hkp
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      iexact H5
    · obtain ⟨hK, hB, -⟩ := step_last t (fun h => h0 ((condFirst_iff t).mp h)) (fun h => h1 ((condMore_iff t).mp h)) (fun h => h0 ((condInit_iff t).mp h))
      rw [if_neg (show ¬t.val = 0 by omega), if_neg (show ¬t.val = 0 by omega)]
      rw [Ring.AtK2_here_last _ _ _ _ _ t.val hK hB, Ring.AtK2_next_last _ _ _ _ _ t.val hK hB]
      iintro ⟨⟨⟨HS0, HS2, HS3⟩, Hg, ⟨-, Hra, Hrb⟩⟩, ⟨%W, -, HW⟩, ⟨%d0, H0⟩, ⟨%d1, H1⟩, ⟨%d2, H2⟩, ⟨%d3, H3⟩, ⟨%d4, H4⟩, ⟨%d5, H5⟩⟩
      iapply ((run_last c t _ _ _ _ _ _ _ _ _ _ _ _ _ _ _ _ _ _ (fun h => h0 ((condFirst_iff t).mp h)) (fun h => h1 ((condMore_iff t).mp h)) (fun h => h0 ((condInit_iff t).mp h)) (iblk m c 0 t) (iblk m c 1 t) (iblk m c 2 t) (iblk m c 3 t) (stkAt m c (Ring.bk 16 (t.val - 1))) (margins_stk _ _ _) k0_pay8 k0_pay9 (V m c main_arg0)) W _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS2]; · iexact HS2
      isplitl [HS3]; · iexact HS3
      isplitl [Hra]; · iexact Hra
      isplitl [HW]; · iexact HW
      iintro ⟨H0, H1, H2, H3, H4, H5, HS0, HS2, HS3, Hkp, ⟨%W', HW⟩⟩
      isplitl [HS0 HS2 HS3 Hg Hrb Hkp]
      · isplitl [HS0 HS2 HS3]
        · isplitl [HS0]; · iexact HS0
          isplitl [HS2]; · iexact HS2
          iexact HS3
        isplitl [Hg]; · iexact Hg
        iapply (Ring.with_homes (Idealize.SL.BI.Entails.refl _))
        isplitl [Hrb]; · iexact Hrb
        iexact Hkp
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      iexact H5

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands the region is the invariant before the first point; the invariant after the last hands it back. -/
theorem hin (c : Dev nD) : Pipeline.ΦD ownSem spec0 hbmSet (V m) c ⊢ (dats m 0 c).Φ 0 := by
  rw [PhiD_eq, show (dats m 0 c).Φ 0 = inv m c 0 from rfl]
  unfold inv carried
  rw [if_pos rfl]
  iintro ⟨⟨HS0, HR, HS2, HS3⟩, Hg, ⟨Hq0, Hq1⟩, Hh⟩
  isplitl [HS0 HS2 HS3]
  · isplitl [HS0]; · iexact HS0
    isplitl [HS2]; · iexact HS2
    iexact HS3
  isplitl [Hg]; · iexact Hg
  iapply (ring_in (F := F) m c)
  isplitl [HR]; · iexact HR
  isplitl [Hq0 Hq1]
  · isplitl [Hq0]; · iexact Hq0
    iexact Hq1
  iexact Hh
theorem hout (c : Dev nD) : (dats m 0 c).Φ (Fin.last cfg0.N) ⊢ Pipeline.ΦD ownSem spec0 hbmSet (V m) c := by
  rw [PhiD_eq, show (dats m 0 c).Φ (Fin.last cfg0.N) = inv m c grid0.N from rfl]
  unfold inv carried
  rw [show grid0.N = 16 by rw [N_0], if_neg (by decide)]
  iintro ⟨⟨HS0, HS2, HS3⟩, Hg, HR⟩
  ihave HX := (ring_out (F := F) m c) $$ HR
  icases HX with ⟨HR, ⟨Hq0, Hq1⟩, Hh⟩
  isplitl [HS0 HR HS2 HS3]
  · isplitl [HS0]; · iexists _; iexact HS0
    isplitl [HR]; · iexact HR
    isplitl [HS2]; · iexists _; iexact HS2
    iexists _; iexact HS3
  isplitl [Hg]; · iexact Hg
  isplitl [Hq0 Hq1]
  · isplitl [Hq0]; · iexact Hq0
    iexact Hq1
  iexact Hh

set_option backward.isDefEq.respectTransparency.types false in
/-- The run of @main: every array at what its write-backs leave, every other buffer as the region found it, every
    semaphore counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 ownSem defs₀ Variants.none ownSem_facts hbmSet hbmSet_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)

/-- The seven argument arrays of a memory, as launched. -/
def ArgsKept (r : MemSt nD τ sig (Elt F)) (c : Dev nD) : Prop :=
  r.mem ((c.tc : Thread nD τ).loc main_arg0) = m ((c.tc : Thread nD τ).loc main_arg0)
    ∧ r.mem ((c.tc : Thread nD τ).loc main_arg1) = m ((c.tc : Thread nD τ).loc main_arg1)
    ∧ r.mem ((c.tc : Thread nD τ).loc main_arg2) = m ((c.tc : Thread nD τ).loc main_arg2)
    ∧ r.mem ((c.tc : Thread nD τ).loc main_arg3) = m ((c.tc : Thread nD τ).loc main_arg3)
    ∧ r.mem ((c.tc : Thread nD τ).loc main_arg4) = m ((c.tc : Thread nD τ).loc main_arg4)
    ∧ r.mem ((c.tc : Thread nD τ).loc main_arg5) = m ((c.tc : Thread nD τ).loc main_arg5)
    ∧ r.mem ((c.tc : Thread nD τ).loc main_arg6) = m ((c.tc : Thread nD τ).loc main_arg6)

theorem argsKept {r : PUnit × MemSt nD τ sig (Elt F)} (h : Pipeline.FramePost cfgs (dats m) 0 (V m) r) (c : Dev nD) : ArgsKept m r.2 c :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c)⟩

/-- The frame: the arguments end as launched, every counter at zero. -/
theorem frame_kept : θ_run defs (onTc (τ := τ) (main (F := F))) ⟨m, fun _ => 0, ρ⟩ (fun r => (∀ c : Dev nD, ArgsKept m r.2 c) ∧ r.2.sem = fun _ => 0) :=
  (θ_run defs _ _).mono (fun _ h => ⟨argsKept m h.1, h.2⟩) (run_main m ρ)

end Cert.KernelIdeal.Conv

end
-- ==== Proof.Arrays.lean ====
/- The two result arrays of the ideal kernel, whole: row `n` of each is the block that point `n` leaves. -/
module

public import proofs.«01_k».proof.Proof.Region
public import Idealize.ShloMosaic.Lib.Pipeline.ValueKit.Geometry
public import Idealize.ShloMosaic.Lib.Pointwise

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

theorem idx4 : ∀ t : Fin cfg0.N, win0_4.index t = ![t.val, 0, 0, 0] :=
  (by decide +kernel : ∀ t : Fin grid0.N, win0_4.index t = ![t.val, 0, 0, 0])
theorem idx5 : ∀ t : Fin cfg0.N, win0_5.index t = ![t.val, 0, 0, 0] :=
  (by decide +kernel : ∀ t : Fin grid0.N, win0_5.index t = ![t.val, 0, 0, 0])

/-- The score array: at image `n`, what point `n` leaves. -/
def clsArr (c : Dev nD) : Vec F S16x15x128x128 .f32 := fun i =>
  clsAt m c (i 0 : Fin 16) (ix4 (0 : Fin 1) (i 1 : Fin 15) (i 2 : Fin 128) (i 3 : Fin 128))
/-- The box array: at image `n`, what point `n` leaves. -/
def boxArr (c : Dev nD) : Vec F S16x60x128x128 .f32 := fun i =>
  boxAt m c (i 0 : Fin 16) (ix4 (0 : Fin 1) (i 1 : Fin 60) (i 2 : Fin 128) (i 3 : Fin 128))

theorem arr_cls (c : Dev nD) : (dats m 0 c).arrAt 4 cfg0.N = clsArr m c := by
  refine (dats m 0 c).arrAt_eq_of_covers 4 _ (by decide +kernel) fun t hf y => ?_
  blk_simp
  rw [after_4]
  have h0 : (win0_4.blk t).view.emb y 0 = (t : Fin 16) := by
    apply Fin.ext; blk_simp [idx4]
  have h1 : (win0_4.blk t).view.emb y 1 = (y 1 : Fin 15) := by apply Fin.ext; blk_simp [idx4]
  have h2 : (win0_4.blk t).view.emb y 2 = (y 2 : Fin 128) := by apply Fin.ext; blk_simp [idx4]
  have h3 : (win0_4.blk t).view.emb y 3 = (y 3 : Fin 128) := by apply Fin.ext; blk_simp [idx4]
  have hy : y = ix4 (0 : Fin 1) (y 1 : Fin 15) (y 2 : Fin 128) (y 3 : Fin 128) := by
    have h : (y 0).val < 1 := (y 0).isLt
    funext a
    match a with
    | ⟨0, _⟩ => exact Fin.ext (by show (y 0).val = 0; omega)
    | ⟨1, _⟩ => rfl
    | ⟨2, _⟩ => rfl
    | ⟨3, _⟩ => rfl
  show clsAt m c t y = clsAt m c ((win0_4.blk t).view.emb y 0) (ix4 (0 : Fin 1) ((win0_4.blk t).view.emb y 1) ((win0_4.blk t).view.emb y 2) ((win0_4.blk t).view.emb y 3))
  rw [h0, h1, h2, h3]
  exact congrArg (clsAt m c t) hy

theorem arr_box (c : Dev nD) : (dats m 0 c).arrAt 5 cfg0.N = boxArr m c := by
  refine (dats m 0 c).arrAt_eq_of_covers 5 _ (by decide +kernel) fun t hf y => ?_
  blk_simp
  rw [after_5]
  have h0 : (win0_5.blk t).view.emb y 0 = (t : Fin 16) := by
    apply Fin.ext; blk_simp [idx5]
  have h1 : (win0_5.blk t).view.emb y 1 = (y 1 : Fin 60) := by apply Fin.ext; blk_simp [idx5]
  have h2 : (win0_5.blk t).view.emb y 2 = (y 2 : Fin 128) := by apply Fin.ext; blk_simp [idx5]
  have h3 : (win0_5.blk t).view.emb y 3 = (y 3 : Fin 128) := by apply Fin.ext; blk_simp [idx5]
  have hy : y = ix4 (0 : Fin 1) (y 1 : Fin 60) (y 2 : Fin 128) (y 3 : Fin 128) := by
    have h : (y 0).val < 1 := (y 0).isLt
    funext a
    match a with
    | ⟨0, _⟩ => exact Fin.ext (by show (y 0).val = 0; omega)
    | ⟨1, _⟩ => rfl
    | ⟨2, _⟩ => rfl
    | ⟨3, _⟩ => rfl
  show boxAt m c t y = boxAt m c ((win0_5.blk t).view.emb y 0) (ix4 (0 : Fin 1) ((win0_5.blk t).view.emb y 1) ((win0_5.blk t).view.emb y 2) ((win0_5.blk t).view.emb y 3))
  rw [h0, h1, h2, h3]
  exact congrArg (boxAt m c t) hy

end Cert.KernelIdeal.Conv
-- ==== Proof.Host.lean ====
/- What the host prepares for the region, read element by element: the nine taps of the convolution side by side, the two
   heads' weights and biases stacked in one array each. -/
module

public import proofs.«01_k».proof.Proof.Arrays
public import proofs.«01_k».proof.Proof.Model
public import Idealize.ShloMosaic.Lib.StableHlo.ReadAt
public import Idealize.ShloMosaic.Lib.Routing.OpsSet

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic

section Rows

variable {R C A : ℕ}

/-- The scatter that writes a block of whole rows from one starting row. -/
abbrev rowsDims (wf : ScatterDims.WF ⟨2, ![R, C]⟩ ⟨1, ![1]⟩ ⟨2, ![A, C]⟩ [0, 1] [] [0] 0) : ScatterDims ⟨2, ![R, C]⟩ ⟨1, ![1]⟩ ⟨2, ![A, C]⟩ where
  updateWindowDims := [0, 1]
  insertedWindowDims := []
  scatterDimsToOperandDims := [0]
  indexVectorDim := 0
  wf := wf

variable (wf : ScatterDims.WF ⟨2, ![R, C]⟩ ⟨1, ![1]⟩ ⟨2, ![A, C]⟩ [0, 1] [] [0] 0)
variable (idx : IVec (⟨1, ![1]⟩ : Shape) 32) (r₀ : ℕ) (h₀ : ∀ i, (idx i).toInt = (r₀ : ℤ))

include h₀ in
/-- Row `k 0` of the block lands `r₀` rows further down, in its own column. -/
theorem rows_land (k : (⟨2, ![A, C]⟩ : Shape).Idx) (ι : (⟨2, ![R, C]⟩ : Shape).Idx) :
    (rowsDims wf).resultIdx? k idx = some ι ↔ r₀ + (k 0).val = (ι 0).val ∧ (k 1).val = (ι 1).val := by
  rw [Routing.resultIdx?_eq_some]
  have s0 : (rowsDims wf).start k idx 0 = (r₀ : ℤ) := by simp [ScatterDims.start, h₀]
  have s1 : (rowsDims wf).start k idx 1 = 0 := by simp [ScatterDims.start]
  have w0 : (rowsDims wf).window k 0 = (k 0).val := by simp [ScatterDims.window]; rfl
  have w1 : (rowsDims wf).window k 1 = (k 1).val := by simp [ScatterDims.window]; rfl
  have e0 : (rowsDims wf).start k idx 0 + ((rowsDims wf).window k 0 : ℤ) = (r₀ : ℤ) + ((k 0).val : ℤ) := by rw [s0, w0]
  have e1 : (rowsDims wf).start k idx 1 + ((rowsDims wf).window k 1 : ℤ) = ((k 1).val : ℤ) := by rw [s1, w1, zero_add]
  constructor
  · intro h
    have a0 := e0.symm.trans (h 0)
    have a1 := e1.symm.trans (h 1)
    omega
  · intro h a
    match a with
    | ⟨0, _⟩ => exact e0.trans (by show _ = ((ι 0).val : ℤ); omega)
    | ⟨1, _⟩ => exact e1.trans (by show _ = ((ι 1).val : ℤ); omega)

include h₀ in
/-- The array after the block of rows is written, at a row the block covers. -/
theorem rows_in {α : Type} (x : (⟨2, ![R, C]⟩ : Shape).Idx → α) (u : (⟨2, ![A, C]⟩ : Shape).Idx → α) (r : Fin R) (c : Fin C) (a : Fin A)
    (ha : r.val = r₀ + a.val) : Host.scatter (rowsDims wf) (fun _ b => b) x idx u (ix2 r c) = u (ix2 a c) := by
  refine Routing.scatter_set_hit (rowsDims wf) x idx u (ix2 r c) _ (fun k hk => ?_) (ix2 a c) ?_
  · obtain ⟨k0, k1⟩ := (rows_land wf idx r₀ h₀ k _).mp hk
    rw [eq_ix2 k]
    congr 1
    · exact congrArg₂ ix2 (Fin.ext (by have e : r₀ + (k 0).val = r.val := k0; omega)) (Fin.ext k1)
  · exact (rows_land wf idx r₀ h₀ _ _).mpr ⟨ha.symm, rfl⟩

include h₀ in
/-- … and at a row it doesn't. -/
theorem rows_out {α : Type} (x : (⟨2, ![R, C]⟩ : Shape).Idx → α) (u : (⟨2, ![A, C]⟩ : Shape).Idx → α) (r : Fin R) (c : Fin C)
    (hr : r.val < r₀ ∨ r₀ + A ≤ r.val) : Host.scatter (rowsDims wf) (fun _ b => b) x idx u (ix2 r c) = x (ix2 r c) := by
  refine Routing.scatter_set_miss (rowsDims wf) x idx u (ix2 r c) fun k hk => ?_
  obtain ⟨k0, -⟩ := (rows_land wf idx r₀ h₀ k _).mp hk
  have e : r₀ + (k 0).val = r.val := k0
  have hl : (k 0).val < A := (k 0).isLt
  omega

end Rows

variable (m : (ℓ : Loc nD τ sig) → Buf (Elt Ideal) ℓ)

theorem start_0 (i : S1.Idx) : ((broadcastInDim S1 ![] bcast_S_S1 (constantI S_ 32 0#32) : IVec S1 32) i).toInt = ((0 : ℕ) : ℤ) := by
  pointwise; rfl
theorem start_16 (i : S1.Idx) : ((broadcastInDim S1 ![] bcast_S_S1 (constantI S_ 32 16#32) : IVec S1 32) i).toInt = ((16 : ℕ) : ℤ) := by
  pointwise; rfl

/-- The class head's weights: rows 0 to 14 of the stacked heads. -/
theorem heads_cls (c : Dev nD) (o : Fin 15) (k : Fin 96) (r : Fin 80) (hr : r.val = o.val) :
    V m c main_v16 (ix2 r k) = (m ((c : Thread nD τ).loc main_arg3) (ix4 o k 0 0) : EReal) := by
  unfold V
  after_reads_at
  refine (rows_out scatter_S80x96_S1_S60x96_01_n_0_0_wf _ 16 start_16 _ _ r k (.inl (by omega))).trans ?_
  exact rows_in scatter_S80x96_S1_S15x96_01_n_0_0_wf _ 0 start_0 _ _ r k o (by omega)
/-- The box head's weights: rows 16 to 75. -/
theorem heads_box (c : Dev nD) (o : Fin 60) (k : Fin 96) (r : Fin 80) (hr : r.val = 16 + o.val) :
    V m c main_v16 (ix2 r k) = (m ((c : Thread nD τ).loc main_arg5) (ix4 o k 0 0) : EReal) := by
  unfold V
  after_reads_at
  exact rows_in scatter_S80x96_S1_S60x96_01_n_0_0_wf _ 16 start_16 _ _ r k o (by omega)
/-- The class head's bias. -/
theorem bias_cls (c : Dev nD) (o : Fin 15) (r : Fin 80) (hr : r.val = o.val) :
    V m c main_v24 (ix2 r 0) = (m ((c : Thread nD τ).loc main_arg4) (ix1 o) : EReal) := by
  unfold V
  after_reads_at
  refine (rows_out scatter_S80x1_S1_S60x1_01_n_0_0_wf _ 16 start_16 _ _ r 0 (.inl (by omega))).trans ?_
  exact rows_in scatter_S80x1_S1_S15x1_01_n_0_0_wf _ 0 start_0 _ _ r 0 o (by omega)
/-- The box head's bias. -/
theorem bias_box (c : Dev nD) (o : Fin 60) (r : Fin 80) (hr : r.val = 16 + o.val) :
    V m c main_v24 (ix2 r 0) = (m ((c : Thread nD τ).loc main_arg6) (ix1 o) : EReal) := by
  unfold V
  after_reads_at
  exact rows_in scatter_S80x1_S1_S60x1_01_n_0_0_wf _ 16 start_16 _ _ r 0 o (by omega)
/-- The convolution's bias, a column. -/
theorem bias_conv (c : Dev nD) (o : Fin 96) :
    V m c main_v17 (ix2 o 0) = (m ((c : Thread nD τ).loc main_arg2) (ix1 o) : EReal) := by
  unfold V
  after_reads_at

/-- The taps of kernel row `dy` side by side: the middle column's channels first, -/
theorem taps_mid (c : Dev nD) (dy : Fin 3) (o k : Fin 96) (j : Fin 288) (hj : j.val = k.val) :
    V m c main_v8 (ix3 dy o j) = (m ((c : Thread nD τ).loc main_arg1) (ix4 o k dy 1) : EReal) := by
  unfold V
  after_reads_at
  rw [dif_pos (by omega)]
  after_reads_at
  exact congrArg (fun q : Fin 96 => m ((c : Thread nD τ).loc main_arg1) (ix4 o q dy 1)) (Fin.ext hj)
/-- then the left column's, -/
theorem taps_left (c : Dev nD) (dy : Fin 3) (o k : Fin 96) (j : Fin 288) (hj : j.val = 96 + k.val) :
    V m c main_v8 (ix3 dy o j) = (m ((c : Thread nD τ).loc main_arg1) (ix4 o k dy 0) : EReal) := by
  unfold V
  after_reads_at
  rw [dif_neg (by omega), dif_pos (by omega)]
  after_reads_at
  exact congrArg (fun q : Fin 96 => m ((c : Thread nD τ).loc main_arg1) (ix4 o q dy 0)) (Fin.ext (by show j.val - 96 = k.val; omega))
/-- then the right column's. -/
theorem taps_right (c : Dev nD) (dy : Fin 3) (o k : Fin 96) (j : Fin 288) (hj : j.val = 192 + k.val) :
    V m c main_v8 (ix3 dy o j) = (m ((c : Thread nD τ).loc main_arg1) (ix4 o k dy 2) : EReal) := by
  unfold V
  after_reads_at
  rw [dif_neg (by omega), dif_neg (by omega)]
  after_reads_at
  exact congrArg (fun q : Fin 96 => m ((c : Thread nD τ).loc main_arg1) (ix4 o q dy 2)) (Fin.ext (by show j.val - 96 - 96 = k.val; omega))

/-! The four inputs' blocks are the whole arrays. -/

theorem idx0 : ∀ t : Fin cfg0.N, win0_0.index t = ![0, 0, 0] := (by decide +kernel : ∀ t : Fin grid0.N, win0_0.index t = ![0, 0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])

theorem blk_0 (c : Dev nD) (t : Fin cfg0.N) : (iblk m c 0 t : Vec Ideal S3x96x288 .bf16) = V m c main_v8 := by
  funext y
  blk_simp [iblk]
  exact congrArg (V m c main_v8) (by blk_ext [idx0])
theorem blk_1 (c : Dev nD) (t : Fin cfg0.N) : (iblk m c 1 t : Vec Ideal S96x1 .f32) = V m c main_v17 := by
  funext y
  blk_simp [iblk]
  exact congrArg (V m c main_v17) (by blk_ext [idx1])
theorem blk_2 (c : Dev nD) (t : Fin cfg0.N) : (iblk m c 2 t : Vec Ideal S80x96 .bf16) = V m c main_v16 := by
  funext y
  blk_simp [iblk]
  exact congrArg (V m c main_v16) (by blk_ext [idx2])
theorem blk_3 (c : Dev nD) (t : Fin cfg0.N) : (iblk m c 3 t : Vec Ideal S80x1 .f32) = V m c main_v24 := by
  funext y
  blk_simp [iblk]
  exact congrArg (V m c main_v24) (by blk_ext [idx3])

end Cert.KernelIdeal.Conv
-- ==== Proof.BlockAt.lean ====
/- The blocks a grid point leaves, at an index: the heads over the rectified convolution of the point's image. -/
module

public import proofs.«01_k».proof.Proof.StackAt
public import proofs.«01_k».proof.Proof.Host

@[expose] public section

set_option maxRecDepth 16384

noncomputable section

namespace Cert.KernelIdeal.Conv

open Cert.KernelIdeal Cert.KernelIdeal.Gen
open Idealize.ShloMosaic Idealize.ShloMosaic.TcCoe
open Cert.Net (bordered plane tap preact head)

/-- A sum over the stacked channels, band by band. -/
theorem sum_bands (f : Fin 288 → EReal) :
    ∑ k, f k = ∑ k : Fin 96, f ⟨k.val, by omega⟩ + ∑ k : Fin 96, f ⟨96 + k.val, by omega⟩ + ∑ k : Fin 96, f ⟨192 + k.val, by omega⟩ := by
  have h1 := Fin.sum_univ_add (a := 192) (b := 96) f
  have h2 := Fin.sum_univ_add (a := 96) (b := 96) fun k : Fin 192 => f (Fin.castAdd 96 k)
  refine h1.trans ?_
  rw [h2]
  rfl

section Sums

variable (w : Vec Ideal S3x96x288 .bf16) (b : Vec Ideal S96x1 .f32) (v : Vec Ideal S1x96x128x128 .f32)
variable (X : Cert.Net.ImgShape.Idx → EReal) (W : Cert.Net.TapShape.Idx → EReal) (β : Fin 96 → EReal) (n : Fin 16)
variable (hX : ∀ ci, chan v ci = plane X n ci)
variable (hmid : ∀ (dy : Fin 3) (o k : Fin 96) (j : Fin 288), j.val = k.val → (w (ix3 dy o j) : EReal) = W (ix4 o k dy 1))
variable (hleft : ∀ (dy : Fin 3) (o k : Fin 96) (j : Fin 288), j.val = 96 + k.val → (w (ix3 dy o j) : EReal) = W (ix4 o k dy 0))
variable (hright : ∀ (dy : Fin 3) (o k : Fin 96) (j : Fin 288), j.val = 192 + k.val → (w (ix3 dy o j) : EReal) = W (ix4 o k dy 2))
variable (hb : ∀ o, (b (ix2 o 0) : EReal) = β o)

include hX hmid hleft hright in
/-- The three taps of kernel row `dy`: one product of the stacked weights with a window of the stack. -/
theorem row_at (dy : Fin 3) (co : Fin 96) (y x : Fin 128) (i : Fin 288 → S3x96x288.Idx) (q : Fin 288 → S288x16640.Idx)
    (hi : ∀ k, i k = ix3 dy co k) (hq : ∀ k, ∃ h, q k = ix2 k ⟨128 * (dy.val + y.val) + x.val, h⟩) :
    (∑ k : Fin 288, (w (i k) : EReal) * (stk v (k0_pay8 (F := Ideal)) (k0_pay9 (F := Ideal)) (q k) : EReal))
      = tap X W n co y x dy 1 + tap X W n co y x dy 0 + tap X W n co y x dy 2 := by
  rw [sum_bands]
  unfold tap
  refine congrArg₂ _ (congrArg₂ _ (Finset.sum_congr rfl fun k _ => ?_) (Finset.sum_congr rfl fun k _ => ?_)) (Finset.sum_congr rfl fun k _ => ?_)
  · obtain ⟨h, e⟩ := hq ⟨k.val, by omega⟩
    rw [e, hi, band_mid v k _ _ _ x.val rfl rfl x.isLt, hmid dy co k _ rfl, hX, mul_comm]; rfl
  · obtain ⟨h, e⟩ := hq ⟨96 + k.val, by omega⟩
    rw [e, hi, band_left v k _ _ _ x.val rfl rfl x.isLt, hleft dy co k _ rfl, hX, mul_comm]; rfl
  · obtain ⟨h, e⟩ := hq ⟨192 + k.val, by omega⟩
    rw [e, hi, band_right v k _ _ _ x.val rfl rfl x.isLt, hright dy co k _ rfl, hX, mul_comm]; rfl

include hX hmid hleft hright hb in
/-- The hidden layer before rectifying, at hidden channel `co` and position `p = 128 y + x`. -/
theorem hid_at (co : Fin 96) (y x : Fin 128) (p : Fin 16384) (hp : p.val = y.val * 128 + x.val) :
    (hid w b (stk v (k0_pay8 (F := Ideal)) (k0_pay9 (F := Ideal))) (ix2 co p) : EReal) = preact X W β n co y x := by
  unfold hid
  pointwise [k0_pay15]
  have e0 := row_at w v X W n hX hmid hleft hright 0 co y x
    (fun k => (Rect.unit (s := S3x96x288) ![0, 0, 0] S1x96x288.size inb_S3x96x288_S1x96x288_0_0_0).emb (ix3 0 co k))
    (fun k => (Rect.unit (s := S288x16640) ![0, 0] S288x16384.size inb_S288x16640_S288x16384_0_0).emb (ix2 k p))
    (fun k => by
      funext a
      match a with
      | ⟨0, _⟩ => rfl
      | ⟨1, _⟩ => exact Fin.ext (by show 0 + 1 * co.val = co.val; omega)
      | ⟨2, _⟩ => exact Fin.ext (by show 0 + 1 * k.val = k.val; omega))
    (fun k => ⟨by show 128 * (0 + y.val) + x.val < 16640; omega, by
      funext a
      match a with
      | ⟨0, _⟩ => exact Fin.ext (by show 0 + 1 * k.val = k.val; omega)
      | ⟨1, _⟩ => exact Fin.ext (by show 0 + 1 * p.val = 128 * (0 + y.val) + x.val; omega)⟩)
  have e1 := row_at w v X W n hX hmid hleft hright 1 co y x
    (fun k => (Rect.unit (s := S3x96x288) ![1, 0, 0] S1x96x288.size inb_S3x96x288_S1x96x288_1_0_0).emb (ix3 0 co k))
    (fun k => (Rect.unit (s := S288x16640) ![0, 128] S288x16384.size inb_S288x16640_S288x16384_0_128).emb (ix2 k p))
    (fun k => by
      funext a
      match a with
      | ⟨0, _⟩ => rfl
      | ⟨1, _⟩ => exact Fin.ext (by show 0 + 1 * co.val = co.val; omega)
      | ⟨2, _⟩ => exact Fin.ext (by show 0 + 1 * k.val = k.val; omega))
    (fun k => ⟨by show 128 * (1 + y.val) + x.val < 16640; omega, by
      funext a
      match a with
      | ⟨0, _⟩ => exact Fin.ext (by show 0 + 1 * k.val = k.val; omega)
      | ⟨1, _⟩ => exact Fin.ext (by show 128 + 1 * p.val = 128 * (1 + y.val) + x.val; omega)⟩)
  have e2 := row_at w v X W n hX hmid hleft hright 2 co y x
    (fun k => (Rect.unit (s := S3x96x288) ![2, 0, 0] S1x96x288.size inb_S3x96x288_S1x96x288_2_0_0).emb (ix3 0 co k))
    (fun k => (Rect.unit (s := S288x16640) ![0, 256] S288x16384.size inb_S288x16640_S288x16384_0_256).emb (ix2 k p))
    (fun k => by
      funext a
      match a with
      | ⟨0, _⟩ => rfl
      | ⟨1, _⟩ => exact Fin.ext (by show 0 + 1 * co.val = co.val; omega)
      | ⟨2, _⟩ => exact Fin.ext (by show 0 + 1 * k.val = k.val; omega))
    (fun k => ⟨by show 128 * (2 + y.val) + x.val < 16640; omega, by
      funext a
      match a with
      | ⟨0, _⟩ => exact Fin.ext (by show 0 + 1 * k.val = k.val; omega)
      | ⟨1, _⟩ => exact Fin.ext (by show 256 + 1 * p.val = 128 * (2 + y.val) + x.val; omega)⟩)
  refine (congrArg₂ (· + ·) (congrArg₂ (· + ·) (congrArg₂ (· + ·) e0 e1) e2) (hb co)).trans ?_
  unfold preact
  ac_rfl

variable (h : Vec Ideal S80x96 .bf16) (hβ : Vec Ideal S80x1 .f32)

include hX hmid hleft hright hb in
/-- The score block. -/
theorem cls_at (o : Fin 15) (y x : Fin 128) (z : Fin 1) (H : Fin 96 → EReal) (B : EReal)
    (hH : ∀ (r : Fin 80) (k : Fin 96), r.val = o.val → (h (ix2 r k) : EReal) = H k)
    (hB : ∀ r : Fin 80, r.val = o.val → (hβ (ix2 r 0) : EReal) = B) :
    (clsOut w b h hβ (stk v (k0_pay8 (F := Ideal)) (k0_pay9 (F := Ideal))) (ix4 z o y x) : EReal) = head X W β H B n y x := by
  unfold clsOut
  pointwise [k0_pay2, k0_pay1, k0_pay16]
  unfold head
  refine congrArg₂ _ (Finset.sum_congr rfl fun k _ => ?_) (hB _ rfl)
  rw [hH _ _ rfl, mul_comm]
  exact congrArg (fun u => max u 0 * H k) (hid_at w b v X W β n hX hmid hleft hright hb k y x _ rfl)

include hX hmid hleft hright hb in
/-- The box block. -/
theorem box_at (o : Fin 60) (y x : Fin 128) (z : Fin 1) (H : Fin 96 → EReal) (B : EReal)
    (hH : ∀ (r : Fin 80) (k : Fin 96), r.val = 16 + o.val → (h (ix2 r k) : EReal) = H k)
    (hB : ∀ r : Fin 80, r.val = 16 + o.val → (hβ (ix2 r 0) : EReal) = B) :
    (boxOut w b h hβ (stk v (k0_pay8 (F := Ideal)) (k0_pay9 (F := Ideal))) (ix4 z o y x) : EReal) = head X W β H B n y x := by
  unfold boxOut
  pointwise [k0_pay3, k0_pay1, k0_pay16]
  unfold head
  refine congrArg₂ _ (Finset.sum_congr rfl fun k _ => ?_) (hB _ rfl)
  rw [hH _ _ rfl, mul_comm]
  exact congrArg (fun u => max u 0 * H k) (hid_at w b v X W β n hX hmid hleft hright hb k y x _ rfl)

end Sums

end Cert.KernelIdeal.Conv
-- ==== Proof.Results.lean ====
/- The ideal kernel's two results as sums over its arguments. -/
module

public import proofs.«01_k».proof.Proof.BlockAt

@[expose] public section

set_option maxRecDepth 16384

noncomputable section

namespace Cert.KernelIdeal.Conv

open Cert.KernelIdeal Cert.KernelIdeal.Gen
open Idealize.ShloMosaic Idealize.ShloMosaic.TcCoe
open Cert.Net (plane head)

variable (m : (ℓ : Loc nD τ sig) → Buf (Elt Ideal) ℓ)

/-- The block of the image that point `t` convolves is image `t`. -/
theorem chan_at (c : Dev nD) (k : ℕ) (t : Fin 16) (hk : k = t.val) (ci : Fin 96) :
    chan (xblk (V m c main_arg0) (Ring.bk 16 k)) ci = plane (m ((c : Thread nD τ).loc main_arg0)) t ci := by
  subst hk
  rw [V_main_arg0]
  have e : Ring.bk 16 t.val = t := Fin.ext (Nat.mod_eq_of_lt t.isLt)
  rw [e]
  funext a b
  unfold chan xblk plane VecWindow.window
  refine congrArg (m ((c : Thread nD τ).loc main_arg0)) ?_
  funext k
  match k with
  | ⟨0, _⟩ => exact Fin.ext (by show 1 * t.val + 1 * 0 = t.val; omega)
  | ⟨1, _⟩ => exact Fin.ext (by show 0 + 1 * ci.val = ci.val; omega)
  | ⟨2, _⟩ => exact Fin.ext (by show 0 + 1 * a.val = a.val; omega)
  | ⟨3, _⟩ => exact Fin.ext (by show 0 + 1 * b.val = b.val; omega)

/-- What point `t` leaves in the score block. -/
theorem cls_point (c : Dev nD) (t : Fin cfg0.N) (n : Fin 16) (hn : t.val = n.val) (o : Fin 15) (y x : Fin 128) :
    (clsAt m c t (ix4 (0 : Fin 1) o y x) : EReal)
      = head (m ((c : Thread nD τ).loc main_arg0)) (m ((c : Thread nD τ).loc main_arg1)) (fun k => m ((c : Thread nD τ).loc main_arg2) (ix1 k))
          (fun k => m ((c : Thread nD τ).loc main_arg3) (ix4 o k 0 0)) (m ((c : Thread nD τ).loc main_arg4) (ix1 o)) n y x := by
  unfold clsAt stkAt
  rw [blk_0, blk_1, blk_2, blk_3]
  exact cls_at _ _ _ _ _ _ n (chan_at m c t.val n hn) (taps_mid m c) (taps_left m c) (taps_right m c) (bias_conv m c) _ _ o y x 0 _ _
    (fun r k hr => heads_cls m c o k r hr) (fun r hr => bias_cls m c o r hr)

/-- The score array, whole. -/
theorem cls_result (c : Dev nD) (n : Fin 16) (o : Fin 15) (y x : Fin 128) :
    ((dats m 0 c).arrAt 4 cfg0.N (ix4 n o y x) : EReal)
      = head (m ((c : Thread nD τ).loc main_arg0)) (m ((c : Thread nD τ).loc main_arg1)) (fun k => m ((c : Thread nD τ).loc main_arg2) (ix1 k))
          (fun k => m ((c : Thread nD τ).loc main_arg3) (ix4 o k 0 0)) (m ((c : Thread nD τ).loc main_arg4) (ix1 o)) n y x := by
  rw [arr_cls]
  exact cls_point m c n n rfl o y x

/-- What point `t` leaves in the box block. -/
theorem box_point (c : Dev nD) (t : Fin cfg0.N) (n : Fin 16) (hn : t.val = n.val) (o : Fin 60) (y x : Fin 128) :
    (boxAt m c t (ix4 (0 : Fin 1) o y x) : EReal)
      = head (m ((c : Thread nD τ).loc main_arg0)) (m ((c : Thread nD τ).loc main_arg1)) (fun k => m ((c : Thread nD τ).loc main_arg2) (ix1 k))
          (fun k => m ((c : Thread nD τ).loc main_arg5) (ix4 o k 0 0)) (m ((c : Thread nD τ).loc main_arg6) (ix1 o)) n y x := by
  unfold boxAt stkAt
  rw [blk_0, blk_1, blk_2, blk_3]
  exact box_at _ _ _ _ _ _ n (chan_at m c t.val n hn) (taps_mid m c) (taps_left m c) (taps_right m c) (bias_conv m c) _ _ o y x 0 _ _
    (fun r k hr => heads_box m c o k r hr) (fun r hr => bias_box m c o r hr)

/-- The box array, whole. -/
theorem box_result (c : Dev nD) (n : Fin 16) (o : Fin 60) (y x : Fin 128) :
    ((dats m 0 c).arrAt 5 cfg0.N (ix4 n o y x) : EReal)
      = head (m ((c : Thread nD τ).loc main_arg0)) (m ((c : Thread nD τ).loc main_arg1)) (fun k => m ((c : Thread nD τ).loc main_arg2) (ix1 k))
          (fun k => m ((c : Thread nD τ).loc main_arg5) (ix4 o k 0 0)) (m ((c : Thread nD τ).loc main_arg6) (ix1 o)) n y x := by
  rw [arr_box]
  exact box_point m c n n rfl o y x

end Cert.KernelIdeal.Conv
-- ==== Proof.Ref.lean ====
/- The ideal reference's two results as the same sums over its arguments. -/
module

public import proofs.«01_k».proof.Proof.Gen.ReferenceIdeal.Run
public import proofs.«01_k».proof.Proof.Model

@[expose] public section

set_option maxRecDepth 16384

noncomputable section

namespace Cert.ReferenceIdeal.Conv

open Cert.ReferenceIdeal Cert.ReferenceIdeal.Gen Cert.ReferenceIdeal.Value
open Idealize.ShloMosaic Idealize.ShloMosaic.TcCoe
open Cert.Net (bordered plane tap preact head)

variable (m : (ℓ : Loc nD τ sig) → Buf (Elt Ideal) ℓ)

theorem pad_zero : (FloatOps.sitofp (F := Ideal) FTy.f32 0#32 : EReal) = 0 := by
  show ((((0#32 : BitVec 32).toInt : ℤ) : ℝ) : EReal) = 0
  simp

/-- One tap of the reference's convolution: a product over the channels of a shifted window of the padded images. -/
theorem tap_at (X : FVec Ideal S16x96x128x128 .f32) (W : FVec Ideal S96x96x3x3 .f32) (dy dx : Fin 3)
    (hx : S16x96x130x130.Slices ![0, 0, dy.val, dx.val] S16x96x128x128) (hw : S96x96x3x3.Slices ![0, 0, dy.val, dx.val] S96x96x1x1)
    (n : Fin 16) (co : Fin 96) (y x : Fin 128) :
    (transpose S16x96x128x128 [0, 3, 1, 2] (Host.dotGeneral dot_S16x96x128x128_S96x96_S16x128x128x96_1_1_023_0_n_n none
      (extractStridedSlice S16x96x128x128 ![0, 0, dy.val, dx.val] (pad S16x96x130x130 ![0, 0, 1, 1] ![0, 0, 1, 1] ![0, 0, 0, 0] X
        (sitofp (F := Ideal) .f32 (constantI S_ 32 0#32)) pads_S16x96x128x128_S16x96x130x130_000_000_110_110 h_S_) hx)
      (shapeCast S96x96 (extractStridedSlice S96x96x1x1 ![0, 0, dy.val, dx.val] W hw) shapeCasts_S96x96x1x1_S96x96))
      transposes_S16x128x128x96_S16x96x128x128_0_3_1_2 (ix4 n co y x) : EReal) = tap X W n co y x dy dx := by
  pointwise [pad_zero]
  rfl

/-- The accumulation over the nine taps from zero, with the bias. -/
theorem taps_sum {T00 T01 T02 T10 T11 T12 T20 T21 T22 Z B : EReal} (X : FVec Ideal S16x96x128x128 .f32) (W : FVec Ideal S96x96x3x3 .f32)
    (b : Fin 96 → EReal) (n : Fin 16) (k : Fin 96) (y x : Fin 128) (hz : Z = 0)
    (h00 : T00 = tap X W n k y x 0 0) (h01 : T01 = tap X W n k y x 0 1) (h02 : T02 = tap X W n k y x 0 2)
    (h10 : T10 = tap X W n k y x 1 0) (h11 : T11 = tap X W n k y x 1 1) (h12 : T12 = tap X W n k y x 1 2)
    (h20 : T20 = tap X W n k y x 2 0) (h21 : T21 = tap X W n k y x 2 1) (h22 : T22 = tap X W n k y x 2 2) (hb : B = b k) :
    Z + T00 + T01 + T02 + T10 + T11 + T12 + T20 + T21 + T22 + B = preact X W b n k y x := by
  subst hz h00 h01 h02 h10 h11 h12 h20 h21 h22 hb
  rw [zero_add]
  rfl

theorem zero_at {s : Shape} (h : S_.BroadcastsInDim s ![]) (i : s.Idx) :
    (broadcastInDim s ![] h (constant (F := Ideal) S_ .f32 0x00000000#32) i : EReal) = 0 := by
  show (Ideal.ofBits .f32 0x00000000#32 : EReal) = 0
  simp [Ideal.ofBits, Ideal.ieee]

theorem bias_at (b : FVec Ideal S96 .f32) (n : Fin 16) (k : Fin 96) (y x : Fin 128) :
    (broadcastInDim S16x96x128x128 ![0, 1, 2, 3] bcast_S1x96x1x1_S16x96x128x128_0_1_2_3 (broadcastInDim S1x96x1x1 ![1] bcast_S96_S1x96x1x1_1 b)
      (ix4 n k y x) : EReal) = b (ix1 k) := by
  pointwise

/-- A head of the reference over any hidden layer `Y`: the scores. -/
theorem cls_head (Y : FVec Ideal S16x96x128x128 .f32) (H : FVec Ideal S15x96x1x1 .f32) (b : FVec Ideal S15 .f32)
    (n : Fin 16) (o : Fin 15) (y x : Fin 128) :
    (addf (transpose S16x15x128x128 [0, 3, 1, 2] (Host.dotGeneral dot_S16x96x128x128_S15x96_S16x128x128x15_1_1_023_0_n_n none
        (maximumf Y (broadcastInDim S16x96x128x128 ![] bcast_S_S16x96x128x128 (constant S_ .f32 0x00000000#32)))
        (shapeCast S15x96 H shapeCasts_S15x96x1x1_S15x96)) transposes_S16x128x128x15_S16x15x128x128_0_3_1_2)
      (broadcastInDim S16x15x128x128 ![0, 1, 2, 3] bcast_S1x15x1x1_S16x15x128x128_0_1_2_3 (broadcastInDim S1x15x1x1 ![1] bcast_S15_S1x15x1x1_1 b))
      (ix4 n o y x) : EReal)
      = ∑ k : Fin 96, max (Y (ix4 n k y x)) 0 * H (ix4 o k 0 0) + b (ix1 o) := by
  pointwise

/-- The reference's scores. -/
theorem cls_result (c : Dev nD) (n : Fin 16) (o : Fin 15) (y x : Fin 128) :
    (res_main_v65 m c (ix4 n o y x) : EReal)
      = head (m ((c.tc : Thread nD τ).loc main_arg0)) (m ((c.tc : Thread nD τ).loc main_arg1)) (fun k => m ((c.tc : Thread nD τ).loc main_arg2) (ix1 k))
          (fun k => m ((c.tc : Thread nD τ).loc main_arg3) (ix4 o k 0 0)) (m ((c.tc : Thread nD τ).loc main_arg4) (ix1 o)) n y x := by
  unfold res_main_v65 head
  refine (cls_head _ _ _ n o y x).trans ?_
  refine congrArg (· + _) (Finset.sum_congr rfl fun k _ => congrArg (fun u => max u 0 * _) ?_)
  exact taps_sum (m ((c.tc : Thread nD τ).loc main_arg0)) (m ((c.tc : Thread nD τ).loc main_arg1)) (fun k => m ((c.tc : Thread nD τ).loc main_arg2) (ix1 k)) n k y x (zero_at _ _)
    (tap_at (m ((c.tc : Thread nD τ).loc main_arg0)) (m ((c.tc : Thread nD τ).loc main_arg1)) 0 0 _ _ n k y x)
    (tap_at (m ((c.tc : Thread nD τ).loc main_arg0)) (m ((c.tc : Thread nD τ).loc main_arg1)) 0 1 _ _ n k y x)
    (tap_at (m ((c.tc : Thread nD τ).loc main_arg0)) (m ((c.tc : Thread nD τ).loc main_arg1)) 0 2 _ _ n k y x)
    (tap_at (m ((c.tc : Thread nD τ).loc main_arg0)) (m ((c.tc : Thread nD τ).loc main_arg1)) 1 0 _ _ n k y x)
    (tap_at (m ((c.tc : Thread nD τ).loc main_arg0)) (m ((c.tc : Thread nD τ).loc main_arg1)) 1 1 _ _ n k y x)
    (tap_at (m ((c.tc : Thread nD τ).loc main_arg0)) (m ((c.tc : Thread nD τ).loc main_arg1)) 1 2 _ _ n k y x)
    (tap_at (m ((c.tc : Thread nD τ).loc main_arg0)) (m ((c.tc : Thread nD τ).loc main_arg1)) 2 0 _ _ n k y x)
    (tap_at (m ((c.tc : Thread nD τ).loc main_arg0)) (m ((c.tc : Thread nD τ).loc main_arg1)) 2 1 _ _ n k y x)
    (tap_at (m ((c.tc : Thread nD τ).loc main_arg0)) (m ((c.tc : Thread nD τ).loc main_arg1)) 2 2 _ _ n k y x)
    (bias_at _ n k y x)

/-- A head of the reference over any hidden layer `Y`: the boxes. -/
theorem box_head (Y : FVec Ideal S16x96x128x128 .f32) (H : FVec Ideal S60x96x1x1 .f32) (b : FVec Ideal S60 .f32)
    (n : Fin 16) (o : Fin 60) (y x : Fin 128) :
    (addf (transpose S16x60x128x128 [0, 3, 1, 2] (Host.dotGeneral dot_S16x96x128x128_S60x96_S16x128x128x60_1_1_023_0_n_n none
        (maximumf Y (broadcastInDim S16x96x128x128 ![] bcast_S_S16x96x128x128 (constant S_ .f32 0x00000000#32)))
        (shapeCast S60x96 H shapeCasts_S60x96x1x1_S60x96)) transposes_S16x128x128x60_S16x60x128x128_0_3_1_2)
      (broadcastInDim S16x60x128x128 ![0, 1, 2, 3] bcast_S1x60x1x1_S16x60x128x128_0_1_2_3 (broadcastInDim S1x60x1x1 ![1] bcast_S60_S1x60x1x1_1 b))
      (ix4 n o y x) : EReal)
      = ∑ k : Fin 96, max (Y (ix4 n k y x)) 0 * H (ix4 o k 0 0) + b (ix1 o) := by
  pointwise

/-- The reference's boxes. -/
theorem box_result (c : Dev nD) (n : Fin 16) (o : Fin 60) (y x : Fin 128) :
    (res_main_v71 m c (ix4 n o y x) : EReal)
      = head (m ((c.tc : Thread nD τ).loc main_arg0)) (m ((c.tc : Thread nD τ).loc main_arg1)) (fun k => m ((c.tc : Thread nD τ).loc main_arg2) (ix1 k))
          (fun k => m ((c.tc : Thread nD τ).loc main_arg5) (ix4 o k 0 0)) (m ((c.tc : Thread nD τ).loc main_arg6) (ix1 o)) n y x := by
  unfold res_main_v71 head
  refine (box_head _ _ _ n o y x).trans ?_
  refine congrArg (· + _) (Finset.sum_congr rfl fun k _ => congrArg (fun u => max u 0 * _) ?_)
  exact taps_sum (m ((c.tc : Thread nD τ).loc main_arg0)) (m ((c.tc : Thread nD τ).loc main_arg1)) (fun k => m ((c.tc : Thread nD τ).loc main_arg2) (ix1 k)) n k y x (zero_at _ _)
    (tap_at (m ((c.tc : Thread nD τ).loc main_arg0)) (m ((c.tc : Thread nD τ).loc main_arg1)) 0 0 _ _ n k y x)
    (tap_at (m ((c.tc : Thread nD τ).loc main_arg0)) (m ((c.tc : Thread nD τ).loc main_arg1)) 0 1 _ _ n k y x)
    (tap_at (m ((c.tc : Thread nD τ).loc main_arg0)) (m ((c.tc : Thread nD τ).loc main_arg1)) 0 2 _ _ n k y x)
    (tap_at (m ((c.tc : Thread nD τ).loc main_arg0)) (m ((c.tc : Thread nD τ).loc main_arg1)) 1 0 _ _ n k y x)
    (tap_at (m ((c.tc : Thread nD τ).loc main_arg0)) (m ((c.tc : Thread nD τ).loc main_arg1)) 1 1 _ _ n k y x)
    (tap_at (m ((c.tc : Thread nD τ).loc main_arg0)) (m ((c.tc : Thread nD τ).loc main_arg1)) 1 2 _ _ n k y x)
    (tap_at (m ((c.tc : Thread nD τ).loc main_arg0)) (m ((c.tc : Thread nD τ).loc main_arg1)) 2 0 _ _ n k y x)
    (tap_at (m ((c.tc : Thread nD τ).loc main_arg0)) (m ((c.tc : Thread nD τ).loc main_arg1)) 2 1 _ _ n k y x)
    (tap_at (m ((c.tc : Thread nD τ).loc main_arg0)) (m ((c.tc : Thread nD τ).loc main_arg1)) 2 2 _ _ n k y x)
    (bias_at _ n k y x)

end Cert.ReferenceIdeal.Conv
-- ==== Proof.Equal.lean ====
/- The two ideal programs end with equal results: each result is one head over the rectified convolution of the same
   arguments. -/
module

public import proofs.«01_k».proof.Defs
public import proofs.«01_k».proof.Proof.Results
public import proofs.«01_k».proof.Proof.Ref

@[expose] public section

set_option maxRecDepth 16384

noncomputable section

namespace Cert.Net

open Idealize.ShloMosaic Idealize.SL.Sem

/-- A head is settled by its arguments. -/
theorem head_congr {X X' : ImgShape.Idx → EReal} {W W' : TapShape.Idx → EReal} {b b' h h' : Fin 96 → EReal} {β β' : EReal}
    (hX : X = X') (hW : W = W') (hb : b = b') (hh : h = h') (hβ : β = β') (n : Fin 16) (y x : Fin 128) :
    head X W b h β n y x = head X' W' b' h' β' n y x := by
  subst hX hW hb hh hβ; rfl

/-- The reference's frame: it has no semaphore, so nothing is left counting. -/
theorem reference_frame : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run m g)

/-- Both results agree, element by element. -/
theorem equal : Cert.algebraic_KernelIdeal_ReferenceIdeal (hKernelIdeal := Cert.KernelIdeal.Gen.facts) (hReferenceIdeal := Cert.ReferenceIdeal.Gen.facts) := by
  intro m g m' g' _ agree
  refine ⟨fun c => (Cert.KernelIdeal.Conv.dats m 0 c).arrAt 4 Cert.KernelIdeal.cfg0.N, fun c => (Cert.KernelIdeal.Conv.dats m 0 c).arrAt 5 Cert.KernelIdeal.cfg0.N, ?_, ?_⟩
  · exact (θ_run _ _ _).mono (fun r h c => ⟨(h.1 c).1 4, (h.1 c).1 5, Cert.KernelIdeal.Conv.argsKept m h.1 c⟩) (Cert.KernelIdeal.Conv.run_main m g)
  · refine (θ_run _ _ _).mono (fun r h c => ⟨(h c).1.trans ?_, (h c).2.1.trans ?_, (h c).2.2⟩) (Cert.ReferenceIdeal.Value.run m' g')
    · obtain ⟨a0, a1, a2, a3, a4, -, -⟩ := agree c
      funext i
      rw [eq_ix4 i]
      refine (Cert.ReferenceIdeal.Conv.cls_result m' c _ _ _ _).trans (Eq.trans ?_ (Cert.KernelIdeal.Conv.cls_result m c _ _ _ _).symm)
      exact head_congr a0 a1 (funext fun k => congrFun a2 (ix1 k)) (funext fun k => congrFun a3 (ix4 _ k 0 0)) (congrFun a4 (ix1 _)) _ _ _
    · obtain ⟨a0, a1, a2, -, -, a5, a6⟩ := agree c
      funext i
      rw [eq_ix4 i]
      refine (Cert.ReferenceIdeal.Conv.box_result m' c _ _ _ _).trans (Eq.trans ?_ (Cert.KernelIdeal.Conv.box_result m c _ _ _ _).symm)
      exact head_congr a0 a1 (funext fun k => congrFun a2 (ix1 k)) (funext fun k => congrFun a5 (ix4 _ k 0 0)) (congrFun a6 (ix1 _)) _ _ _

end Cert.Net

end
-- ==== Proof.Words.lean ====
/- The kernel over words. Its printed program and the idealized one's are line by line the same, since no rule is
   offered, and what `Region` proves of a run holds at every reading of the floats. So the kernel's frame is that run
   read at words: the two body tables and the two mains are shown equal, and the frame carried over. -/
module

public import proofs.«01_k».proof.Defs
public import proofs.«01_k».proof.Proof.Region
public import proofs.«01_k».proof.Proof.Gen.Kernel

@[expose] public section

set_option maxRecDepth 16384

noncomputable section

namespace Cert.Kernel.Words

open Idealize.ShloMosaic Idealize.SL.Sem

variable {F : FTy → Type} [FloatOps F]

set_option maxHeartbeats 1000000 in
/-- The kernels' body tables are equal, label by label. -/
theorem bodies_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So are the whole tables, region and pipeline included. -/
theorem tables_same : Cert.Kernel.defs (F := F) = Cert.KernelIdeal.defs (F := F) :=
  congrArg (Pipeline.defs Cert.KernelIdeal.pcfgs) bodies_same

set_option maxHeartbeats 1000000 in
/-- And the two mains. -/
theorem mains_same : Cert.Kernel.main (F := F) = Cert.KernelIdeal.main (F := F) := by
  funext d; rfl

set_option maxHeartbeats 1000000 in
/-- The kernel's frame, over words. -/
theorem frame : Cert.quiescent_Kernel (hKernel := Cert.Kernel.Gen.facts) := by
  intro m g _
  rw [tables_same, mains_same]
  exact Cert.KernelIdeal.Conv.frame_kept (F := Bits) m g

end Cert.Kernel.Words

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import proofs.«01_k».proof.Proof.Words
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel.Words.frame,
  fun m g _ => Cert.KernelIdeal.Conv.frame_kept m g,
  Cert.Net.reference_frame, trivial, Cert.Net.equal⟩

end Cert.Proof

end
